-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x1024 : Shape := ⟨2, ![32768, 1024]⟩
abbrev S27 : Shape := ⟨1, ![27]⟩
abbrev S3 : Shape := ⟨1, ![3]⟩
abbrev S3072x1024 : Shape := ⟨2, ![3072, 1024]⟩
abbrev S1 : Shape := ⟨1, ![1]⟩
abbrev S_ : Shape := ⟨0, ![]⟩
abbrev S256x1024 : Shape := ⟨2, ![256, 1024]⟩
abbrev S512x1024 : Shape := ⟨2, ![512, 1024]⟩
abbrev S1024x1024 : Shape := ⟨2, ![1024, 1024]⟩
abbrev S2048x1024 : Shape := ⟨2, ![2048, 1024]⟩
abbrev S1536x1024 : Shape := ⟨2, ![1536, 1024]⟩

abbrev nBuf : Space → Nat
  | .hbm => 3
  | .vmem => 3
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .local _ .vmem, ⟨0, _⟩ => ⟨S3072x1024, .f32⟩
  | .local _ .vmem, ⟨1, _⟩ => ⟨S3072x1024, .f32⟩
  | .local _ .vmem, ⟨2, _⟩ => ⟨S3072x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_v1_0 : Ref sig .tc := ⟨.hbm, 1, rfl⟩
abbrev main_v1_1 : Ref sig .tc := ⟨.hbm, 2, rfl⟩
abbrev cc0_scratch3 : Ref sig .tc := ⟨.vmem, 0, rfl⟩
abbrev cc0_scratch4 : Ref sig .tc := ⟨.vmem, 1, rfl⟩
abbrev cc0_scratch5 : Ref sig .tc := ⟨.vmem, 2, rfl⟩

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c8192_i32 : BitVec 32 := 8192#32
  let v24 : BitVec 32 := Scalar.muli v13 c8192_i32
  let v25 : BitVec 32 := Scalar.addi v24 c0_i32
  let c0_i32_20 : BitVec 32 := 0#32
  ![v25.toNat, 0]
def k0_dev1 (d0 : Dev nD) : Nat :=
  let c0_i32_17 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_16 : BitVec 32 := 4#32
  let v26 : BitVec 32 := Scalar.muli v9 c4_i32_16
  let v27 : BitVec 32 := Scalar.addi c0_i32_17 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v28 : BitVec 32 := Scalar.muli v5 c2_i32_18
  let v29 : BitVec 32 := Scalar.addi v27 v28
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v30 : BitVec 32 := Scalar.muli v8 c1_i32_19
  let v31 : BitVec 32 := Scalar.addi v29 v30
  v31.toNat
def k0_dev2 (d0 : Dev nD) : Nat :=
  let c0_i32_26 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_25 : BitVec 32 := 4#32
  let v40 : BitVec 32 := Scalar.muli v9 c4_i32_25
  let v41 : BitVec 32 := Scalar.addi c0_i32_26 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v42 : BitVec 32 := Scalar.muli v5 c2_i32_27
  let v43 : BitVec 32 := Scalar.addi v41 v42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v44 : BitVec 32 := Scalar.muli v8 c1_i32_28
  let v45 : BitVec 32 := Scalar.addi v43 v44
  v45.toNat
def k0_off2 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c8192_i32_31 : BitVec 32 := 8192#32
  let v52 : BitVec 32 := Scalar.muli v13 c8192_i32_31
  let c512_i32 : BitVec 32 := 512#32
  let v53 : BitVec 32 := Scalar.addi v52 c512_i32
  let c0_i32_38 : BitVec 32 := 0#32
  ![v53.toNat, 0]
def k0_dev3 (d0 : Dev nD) : Nat :=
  let c0_i32_35 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_34 : BitVec 32 := 4#32
  let v54 : BitVec 32 := Scalar.muli v9 c4_i32_34
  let v55 : BitVec 32 := Scalar.addi c0_i32_35 v54
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v56 : BitVec 32 := Scalar.muli v5 c2_i32_36
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v58 : BitVec 32 := Scalar.muli v8 c1_i32_37
  let v59 : BitVec 32 := Scalar.addi v57 v58
  v59.toNat
def k0_off3 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c8192_i32_40 : BitVec 32 := 8192#32
  let v66 : BitVec 32 := Scalar.muli v13 c8192_i32_40
  let c1024_i32 : BitVec 32 := 1024#32
  let v67 : BitVec 32 := Scalar.addi v66 c1024_i32
  let c0_i32_46 : BitVec 32 := 0#32
  ![v67.toNat, 0]
def k0_dev4 (d0 : Dev nD) : Nat :=
  let c0_i32_43 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_42 : BitVec 32 := 4#32
  let v68 : BitVec 32 := Scalar.muli v9 c4_i32_42
  let v69 : BitVec 32 := Scalar.addi c0_i32_43 v68
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_44 : BitVec 32 := 2#32
  let v70 : BitVec 32 := Scalar.muli v5 c2_i32_44
  let v71 : BitVec 32 := Scalar.addi v69 v70
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v72 : BitVec 32 := Scalar.muli v8 c1_i32_45
  let v73 : BitVec 32 := Scalar.addi v71 v72
  v73.toNat
def k0_off4 (d0 : Dev nD) (c2048_i32 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c8192_i32_48 : BitVec 32 := 8192#32
  let v80 : BitVec 32 := Scalar.muli v13 c8192_i32_48
  let v81 : BitVec 32 := Scalar.addi v80 c2048_i32
  let c0_i32_55 : BitVec 32 := 0#32
  ![v81.toNat, 0]
def k0_dev5 (d0 : Dev nD) : Nat :=
  let c0_i32_52 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_51 : BitVec 32 := 4#32
  let v82 : BitVec 32 := Scalar.muli v9 c4_i32_51
  let v83 : BitVec 32 := Scalar.addi c0_i32_52 v82
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v84 : BitVec 32 := Scalar.muli v5 c2_i32_53
  let v85 : BitVec 32 := Scalar.addi v83 v84
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_54 : BitVec 32 := 1#32
  let v86 : BitVec 32 := Scalar.muli v8 c1_i32_54
  let v87 : BitVec 32 := Scalar.addi v85 v86
  v87.toNat
def k0_dev6 (d0 : Dev nD) : Nat :=
  let c0_i32_60 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_59 : BitVec 32 := 4#32
  let v96 : BitVec 32 := Scalar.muli v9 c4_i32_59
  let v97 : BitVec 32 := Scalar.addi c0_i32_60 v96
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v98 : BitVec 32 := Scalar.muli v5 c2_i32_61
  let v99 : BitVec 32 := Scalar.addi v97 v98
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_62 : BitVec 32 := 1#32
  let v100 : BitVec 32 := Scalar.muli v8 c1_i32_62
  let v101 : BitVec 32 := Scalar.addi v99 v100
  v101.toNat
def k0_dev7 (d0 : Dev nD) : Nat :=
  let c0_i32_68 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_67 : BitVec 32 := 4#32
  let v110 : BitVec 32 := Scalar.muli v9 c4_i32_67
  let v111 : BitVec 32 := Scalar.addi c0_i32_68 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v112 : BitVec 32 := Scalar.muli v5 c2_i32_69
  let v113 : BitVec 32 := Scalar.addi v111 v112
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_70 : BitVec 32 := 1#32
  let v114 : BitVec 32 := Scalar.muli v8 c1_i32_70
  let v115 : BitVec 32 := Scalar.addi v113 v114
  v115.toNat
def k0_off5 (d0 : Dev nD) (c0_i32_74 : BitVec 32) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c8192_i32_73 : BitVec 32 := 8192#32
  let v122 : BitVec 32 := Scalar.muli v23 c8192_i32_73
  let v123 : BitVec 32 := Scalar.addi v122 c0_i32_74
  let c0_i32_80 : BitVec 32 := 0#32
  ![v123.toNat, 0]
def k0_off5_at (r : Fin 3) : BitVec 32 :=
  if r.val < 1 then
    0#32
  else
    if r.val < 2 then
      1536#32
    else
      4096#32
def k0_dev8 (d0 : Dev nD) : Nat :=
  let c0_i32_77 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_76 : BitVec 32 := 4#32
  let v124 : BitVec 32 := Scalar.muli v9 c4_i32_76
  let v125 : BitVec 32 := Scalar.addi c0_i32_77 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_78 : BitVec 32 := 2#32
  let v126 : BitVec 32 := Scalar.muli v5 c2_i32_78
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_79 : BitVec 32 := 1#32
  let v128 : BitVec 32 := Scalar.muli v8 c1_i32_79
  let v129 : BitVec 32 := Scalar.addi v127 v128
  v129.toNat
def k0_dev9 (d0 : Dev nD) : Nat :=
  let c0_i32_85 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_84 : BitVec 32 := 4#32
  let v138 : BitVec 32 := Scalar.muli v9 c4_i32_84
  let v139 : BitVec 32 := Scalar.addi c0_i32_85 v138
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_86 : BitVec 32 := 2#32
  let v140 : BitVec 32 := Scalar.muli v5 c2_i32_86
  let v141 : BitVec 32 := Scalar.addi v139 v140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v142 : BitVec 32 := Scalar.muli v8 c1_i32_87
  let v143 : BitVec 32 := Scalar.addi v141 v142
  v143.toNat
def k0_dev10 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_103 : BitVec 32 := 2#32
  let v164 : BitVec 32 := Scalar.muli v10 c2_i32_103
  let v165 : BitVec 32 := Scalar.addi v163 v164
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_104 : BitVec 32 := 1#32
  let v166 : BitVec 32 := Scalar.muli v8 c1_i32_104
  let v167 : BitVec 32 := Scalar.addi v165 v166
  v167.toNat
def k0_dev11 (d0 : Dev nD) : Nat :=
  let c0_i32_111 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_110 : BitVec 32 := 4#32
  let v176 : BitVec 32 := Scalar.muli v2 c4_i32_110
  let v177 : BitVec 32 := Scalar.addi c0_i32_111 v176
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_112 : BitVec 32 := 2#32
  let v178 : BitVec 32 := Scalar.muli v5 c2_i32_112
  let v179 : BitVec 32 := Scalar.addi v177 v178
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_113 : BitVec 32 := 1#32
  let v180 : BitVec 32 := Scalar.muli v11 c1_i32_113
  let v181 : BitVec 32 := Scalar.addi v179 v180
  v181.toNat
def k0_dev12 (d0 : Dev nD) : Nat :=
  let c0_i32_159 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_158 : BitVec 32 := 4#32
  let v232 : BitVec 32 := Scalar.muli v2 c4_i32_158
  let v233 : BitVec 32 := Scalar.addi c0_i32_159 v232
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_160 : BitVec 32 := 2#32
  let v234 : BitVec 32 := Scalar.muli v10 c2_i32_160
  let v235 : BitVec 32 := Scalar.addi v233 v234
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_161 : BitVec 32 := 1#32
  let v236 : BitVec 32 := Scalar.muli v8 c1_i32_161
  let v237 : BitVec 32 := Scalar.addi v235 v236
  v237.toNat
def k0_dev13 (d0 : Dev nD) : Nat :=
  let c0_i32_168 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_167 : BitVec 32 := 4#32
  let v246 : BitVec 32 := Scalar.muli v2 c4_i32_167
  let v247 : BitVec 32 := Scalar.addi c0_i32_168 v246
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_169 : BitVec 32 := 2#32
  let v248 : BitVec 32 := Scalar.muli v5 c2_i32_169
  let v249 : BitVec 32 := Scalar.addi v247 v248
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_170 : BitVec 32 := 1#32
  let v250 : BitVec 32 := Scalar.muli v11 c1_i32_170
  let v251 : BitVec 32 := Scalar.addi v249 v250
  v251.toNat
def k0_dev14 (d0 : Dev nD) : Nat :=
  let c0_i32_217 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_216 : BitVec 32 := 4#32
  let v302 : BitVec 32 := Scalar.muli v2 c4_i32_216
  let v303 : BitVec 32 := Scalar.addi c0_i32_217 v302
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_218 : BitVec 32 := 2#32
  let v304 : BitVec 32 := Scalar.muli v10 c2_i32_218
  let v305 : BitVec 32 := Scalar.addi v303 v304
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_219 : BitVec 32 := 1#32
  let v306 : BitVec 32 := Scalar.muli v8 c1_i32_219
  let v307 : BitVec 32 := Scalar.addi v305 v306
  v307.toNat
def k0_dev15 (d0 : Dev nD) : Nat :=
  let c0_i32_226 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_225 : BitVec 32 := 4#32
  let v316 : BitVec 32 := Scalar.muli v2 c4_i32_225
  let v317 : BitVec 32 := Scalar.addi c0_i32_226 v316
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_227 : BitVec 32 := 2#32
  let v318 : BitVec 32 := Scalar.muli v5 c2_i32_227
  let v319 : BitVec 32 := Scalar.addi v317 v318
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_228 : BitVec 32 := 1#32
  let v320 : BitVec 32 := Scalar.muli v11 c1_i32_228
  let v321 : BitVec 32 := Scalar.addi v319 v320
  v321.toNat
def k0_dev16 (d0 : Dev nD) : Nat :=
  let c0_i32_275 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_274 : BitVec 32 := 4#32
  let v372 : BitVec 32 := Scalar.muli v2 c4_i32_274
  let v373 : BitVec 32 := Scalar.addi c0_i32_275 v372
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_276 : BitVec 32 := 2#32
  let v374 : BitVec 32 := Scalar.muli v10 c2_i32_276
  let v375 : BitVec 32 := Scalar.addi v373 v374
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_277 : BitVec 32 := 1#32
  let v376 : BitVec 32 := Scalar.muli v8 c1_i32_277
  let v377 : BitVec 32 := Scalar.addi v375 v376
  v377.toNat
def k0_dev17 (d0 : Dev nD) : Nat :=
  let c0_i32_284 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_283 : BitVec 32 := 4#32
  let v386 : BitVec 32 := Scalar.muli v2 c4_i32_283
  let v387 : BitVec 32 := Scalar.addi c0_i32_284 v386
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_285 : BitVec 32 := 2#32
  let v388 : BitVec 32 := Scalar.muli v5 c2_i32_285
  let v389 : BitVec 32 := Scalar.addi v387 v388
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_286 : BitVec 32 := 1#32
  let v390 : BitVec 32 := Scalar.muli v11 c1_i32_286
  let v391 : BitVec 32 := Scalar.addi v389 v390
  v391.toNat
def k0_dev18 (d0 : Dev nD) : Nat :=
  let c0_i32_333 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_332 : BitVec 32 := 4#32
  let v442 : BitVec 32 := Scalar.muli v2 c4_i32_332
  let v443 : BitVec 32 := Scalar.addi c0_i32_333 v442
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_334 : BitVec 32 := 2#32
  let v444 : BitVec 32 := Scalar.muli v10 c2_i32_334
  let v445 : BitVec 32 := Scalar.addi v443 v444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_335 : BitVec 32 := 1#32
  let v446 : BitVec 32 := Scalar.muli v8 c1_i32_335
  let v447 : BitVec 32 := Scalar.addi v445 v446
  v447.toNat
def k0_dev19 (d0 : Dev nD) : Nat :=
  let c0_i32_342 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_341 : BitVec 32 := 4#32
  let v456 : BitVec 32 := Scalar.muli v2 c4_i32_341
  let v457 : BitVec 32 := Scalar.addi c0_i32_342 v456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_343 : BitVec 32 := 2#32
  let v458 : BitVec 32 := Scalar.muli v5 c2_i32_343
  let v459 : BitVec 32 := Scalar.addi v457 v458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_344 : BitVec 32 := 1#32
  let v460 : BitVec 32 := Scalar.muli v11 c1_i32_344
  let v461 : BitVec 32 := Scalar.addi v459 v460
  v461.toNat
def k0_dev20 (d0 : Dev nD) : Nat :=
  let c0_i32_391 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_390 : BitVec 32 := 4#32
  let v512 : BitVec 32 := Scalar.muli v2 c4_i32_390
  let v513 : BitVec 32 := Scalar.addi c0_i32_391 v512
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_392 : BitVec 32 := 2#32
  let v514 : BitVec 32 := Scalar.muli v10 c2_i32_392
  let v515 : BitVec 32 := Scalar.addi v513 v514
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_393 : BitVec 32 := 1#32
  let v516 : BitVec 32 := Scalar.muli v8 c1_i32_393
  let v517 : BitVec 32 := Scalar.addi v515 v516
  v517.toNat
def k0_dev21 (d0 : Dev nD) : Nat :=
  let c0_i32_400 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_399 : BitVec 32 := 4#32
  let v526 : BitVec 32 := Scalar.muli v2 c4_i32_399
  let v527 : BitVec 32 := Scalar.addi c0_i32_400 v526
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_401 : BitVec 32 := 2#32
  let v528 : BitVec 32 := Scalar.muli v5 c2_i32_401
  let v529 : BitVec 32 := Scalar.addi v527 v528
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_402 : BitVec 32 := 1#32
  let v530 : BitVec 32 := Scalar.muli v11 c1_i32_402
  let v531 : BitVec 32 := Scalar.addi v529 v530
  v531.toNat
def k0_dev22 (d0 : Dev nD) : Nat :=
  let c0_i32_449 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_448 : BitVec 32 := 4#32
  let v582 : BitVec 32 := Scalar.muli v2 c4_i32_448
  let v583 : BitVec 32 := Scalar.addi c0_i32_449 v582
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_450 : BitVec 32 := 2#32
  let v584 : BitVec 32 := Scalar.muli v10 c2_i32_450
  let v585 : BitVec 32 := Scalar.addi v583 v584
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_451 : BitVec 32 := 1#32
  let v586 : BitVec 32 := Scalar.muli v8 c1_i32_451
  let v587 : BitVec 32 := Scalar.addi v585 v586
  v587.toNat
def k0_dev23 (d0 : Dev nD) : Nat :=
  let c0_i32_458 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_457 : BitVec 32 := 4#32
  let v596 : BitVec 32 := Scalar.muli v2 c4_i32_457
  let v597 : BitVec 32 := Scalar.addi c0_i32_458 v596
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_459 : BitVec 32 := 2#32
  let v598 : BitVec 32 := Scalar.muli v5 c2_i32_459
  let v599 : BitVec 32 := Scalar.addi v597 v598
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_460 : BitVec 32 := 1#32
  let v600 : BitVec 32 := Scalar.muli v11 c1_i32_460
  let v601 : BitVec 32 := Scalar.addi v599 v600
  v601.toNat
def k0_off6 (d0 : Dev nD) (c0_i32_504 : BitVec 32) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c8192_i32_503 : BitVec 32 := 8192#32
  let v650 : BitVec 32 := Scalar.muli v19 c8192_i32_503
  let v651 : BitVec 32 := Scalar.addi v650 c0_i32_504
  let c0_i32_508 : BitVec 32 := 0#32
  ![v651.toNat, 0]
def k0_off7 (d0 : Dev nD) (c0_i32_544 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c8192_i32_543 : BitVec 32 := 8192#32
  let v692 : BitVec 32 := Scalar.muli v16 c8192_i32_543
  let v693 : BitVec 32 := Scalar.addi v692 c0_i32_544
  let c0_i32_548 : BitVec 32 := 0#32
  ![v693.toNat, 0]
def k0_off8 (d0 : Dev nD) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c8192_i32_663 : BitVec 32 := 8192#32
  let v818 : BitVec 32 := Scalar.muli v19 c8192_i32_663
  let c512_i32_664 : BitVec 32 := 512#32
  let v819 : BitVec 32 := Scalar.addi v818 c512_i32_664
  let c0_i32_668 : BitVec 32 := 0#32
  ![v819.toNat, 0]
def k0_off9 (d0 : Dev nD) (c512_i32_704 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c8192_i32_703 : BitVec 32 := 8192#32
  let v860 : BitVec 32 := Scalar.muli v16 c8192_i32_703
  let v861 : BitVec 32 := Scalar.addi v860 c512_i32_704
  let c0_i32_708 : BitVec 32 := 0#32
  ![v861.toNat, 0]
def k0_off10 (d0 : Dev nD) (c1024_i32_744 : BitVec 32) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c8192_i32_743 : BitVec 32 := 8192#32
  let v902 : BitVec 32 := Scalar.muli v19 c8192_i32_743
  let v903 : BitVec 32 := Scalar.addi v902 c1024_i32_744
  let c0_i32_748 : BitVec 32 := 0#32
  ![v903.toNat, 0]
def k0_off11 (d0 : Dev nD) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c8192_i32_783 : BitVec 32 := 8192#32
  let v944 : BitVec 32 := Scalar.muli v16 c8192_i32_783
  let c1024_i32_784 : BitVec 32 := 1024#32
  let v945 : BitVec 32 := Scalar.addi v944 c1024_i32_784
  let c0_i32_788 : BitVec 32 := 0#32
  ![v945.toNat, 0]
def k0_dev24 (d0 : Dev nD) : Nat :=
  let c0_i32_826 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_825 : BitVec 32 := 4#32
  let v988 : BitVec 32 := Scalar.muli v2 c4_i32_825
  let v989 : BitVec 32 := Scalar.addi c0_i32_826 v988
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_827 : BitVec 32 := 2#32
  let v990 : BitVec 32 := Scalar.muli v10 c2_i32_827
  let v991 : BitVec 32 := Scalar.addi v989 v990
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_828 : BitVec 32 := 1#32
  let v992 : BitVec 32 := Scalar.muli v8 c1_i32_828
  let v993 : BitVec 32 := Scalar.addi v991 v992
  v993.toNat
def k0_off12 (d0 : Dev nD) (c2048_i32_832 : BitVec 32) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c8192_i32_831 : BitVec 32 := 8192#32
  let v1000 : BitVec 32 := Scalar.muli v19 c8192_i32_831
  let v1001 : BitVec 32 := Scalar.addi v1000 c2048_i32_832
  let c0_i32_836 : BitVec 32 := 0#32
  ![v1001.toNat, 0]
def k0_off13 (d0 : Dev nD) (c2048_i32_872 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c8192_i32_871 : BitVec 32 := 8192#32
  let v1042 : BitVec 32 := Scalar.muli v16 c8192_i32_871
  let v1043 : BitVec 32 := Scalar.addi v1042 c2048_i32_872
  let c0_i32_876 : BitVec 32 := 0#32
  ![v1043.toNat, 0]
def k0_off14 (d0 : Dev nD) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c8192_i32_911 : BitVec 32 := 8192#32
  let v1084 : BitVec 32 := Scalar.muli v19 c8192_i32_911
  let c4096_i32_912 : BitVec 32 := 4096#32
  let v1085 : BitVec 32 := Scalar.addi v1084 c4096_i32_912
  let c0_i32_918 : BitVec 32 := 0#32
  ![v1085.toNat, 0]
def k0_dev25 (d0 : Dev nD) : Nat :=
  let c0_i32_915 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_914 : BitVec 32 := 4#32
  let v1086 : BitVec 32 := Scalar.muli v2 c4_i32_914
  let v1087 : BitVec 32 := Scalar.addi c0_i32_915 v1086
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_916 : BitVec 32 := 2#32
  let v1088 : BitVec 32 := Scalar.muli v10 c2_i32_916
  let v1089 : BitVec 32 := Scalar.addi v1087 v1088
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_917 : BitVec 32 := 1#32
  let v1090 : BitVec 32 := Scalar.muli v8 c1_i32_917
  let v1091 : BitVec 32 := Scalar.addi v1089 v1090
  v1091.toNat
def k0_dev26 (d0 : Dev nD) : Nat :=
  let c0_i32_963 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_962 : BitVec 32 := 4#32
  let v1142 : BitVec 32 := Scalar.muli v2 c4_i32_962
  let v1143 : BitVec 32 := Scalar.addi c0_i32_963 v1142
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_964 : BitVec 32 := 2#32
  let v1144 : BitVec 32 := Scalar.muli v5 c2_i32_964
  let v1145 : BitVec 32 := Scalar.addi v1143 v1144
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_965 : BitVec 32 := 1#32
  let v1146 : BitVec 32 := Scalar.muli v11 c1_i32_965
  let v1147 : BitVec 32 := Scalar.addi v1145 v1146
  v1147.toNat
def k0_dev27 (d0 : Dev nD) : Nat :=
  let c0_i32_1052 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1051 : BitVec 32 := 4#32
  let v1240 : BitVec 32 := Scalar.muli v2 c4_i32_1051
  let v1241 : BitVec 32 := Scalar.addi c0_i32_1052 v1240
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1053 : BitVec 32 := 2#32
  let v1242 : BitVec 32 := Scalar.muli v5 c2_i32_1053
  let v1243 : BitVec 32 := Scalar.addi v1241 v1242
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1054 : BitVec 32 := 1#32
  let v1244 : BitVec 32 := Scalar.muli v11 c1_i32_1054
  let v1245 : BitVec 32 := Scalar.addi v1243 v1244
  v1245.toNat
def k0_off15 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c8192_i32_1177 : BitVec 32 := 8192#32
  let v1378 : BitVec 32 := Scalar.muli v23 c8192_i32_1177
  let c3072_i32_1178 : BitVec 32 := 3072#32
  let v1379 : BitVec 32 := Scalar.addi v1378 c3072_i32_1178
  let c0_i32_1182 : BitVec 32 := 0#32
  ![v1379.toNat, 0]
def k0_off16 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c8192_i32_1217 : BitVec 32 := 8192#32
  let v1420 : BitVec 32 := Scalar.muli v23 c8192_i32_1217
  let c5632_i32_1218 : BitVec 32 := 5632#32
  let v1421 : BitVec 32 := Scalar.addi v1420 c5632_i32_1218
  let c0_i32_1222 : BitVec 32 := 0#32
  ![v1421.toNat, 0]
def k0_off17 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c8192_i32_1297 : BitVec 32 := 8192#32
  let v1504 : BitVec 32 := Scalar.muli v23 c8192_i32_1297
  let c6144_i32_1298 : BitVec 32 := 6144#32
  let v1505 : BitVec 32 := Scalar.addi v1504 c6144_i32_1298
  let c0_i32_1302 : BitVec 32 := 0#32
  ![v1505.toNat, 0]
-- ==== ReferenceIdeal.lean ====
abbrev S65536x1024 : Shape := ⟨2, ![65536, 1024]⟩
abbrev S2x32768x1024 : Shape := ⟨3, ![2, 32768, 1024]⟩
abbrev S_ : Shape := ⟨0, ![]⟩
abbrev S32768x1024 : Shape := ⟨2, ![32768, 1024]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x32768x1024, .f32⟩
  | .hbm, ⟨2, _⟩ => ⟨S_, .f32⟩
  | .hbm, ⟨3, _⟩ => ⟨S32768x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mesh.lean ====
/-
  The schedule of the all-reduce as tables. The mesh is 2 × 2 × 2, device `c` at `(c / 4, c / 2 % 2, c % 2)`. Every device
  sends 27 pieces and receives 27 pieces; piece `i` travels along one mesh axis, to the neighbour `peer i c`, so the device that
  receives piece `i` from `c` is also the one that sends piece `i` to `c`. The array of 32768 rows is counted in 128 blocks of
  256 rows, of which each quarter of 32 blocks belongs to one position `(y, z)`.

  * pieces 0–6 are the device's own quarter, from its own input, along x;
  * pieces 7, 8 are part of the diagonal quarter, from its own input, along x;
  * pieces 9–22 pass each of the landed pieces 0–6 on, along y (odd) and along z (even);
  * pieces 23, 24 pass on parts of what arrived along z, along y; pieces 25, 26 parts of what arrived along y, along z.
-/
module

public import proofs.«01_k».proof.Proof.Gen.KernelIdeal

@[expose] public section

noncomputable section

namespace Cert.Proof

open Cert.KernelIdeal
open Idealize.ShloMosaic

/-! ## The neighbours -/

/-- The mesh axis piece `i` travels along: 0 for x, 1 for y, 2 for z. -/
def dir : Fin 27 → Fin 3 := ![0, 0, 0, 0, 0, 0, 0, 0, 0, 1, 2, 1, 2, 1, 2, 1, 2, 1, 2, 1, 2, 1, 2, 1, 1, 2, 2]

/-- The device on the other side of axis `a`. -/
def across (a : Fin 3) (c : Fin 8) : Fin 8 :=
  match a with
  | 0 => ![4, 5, 6, 7, 0, 1, 2, 3] c
  | 1 => ![2, 3, 0, 1, 6, 7, 4, 5] c
  | 2 => ![1, 0, 3, 2, 5, 4, 7, 6] c

theorem across_across : ∀ (a : Fin 3) (c : Fin 8), across a (across a c) = c := by decide

/-- Whom device `c` sends piece `i` to, and receives piece `i` from. -/
def peer (i : Fin 27) (c : Dev nD) : Dev nD := across (dir i) c

theorem peer_peer (i : Fin 27) (c : Dev nD) : peer i (peer i c) = c := across_across _ _

/-- The exchange of piece `i`, a pairing of the devices. -/
def swap (i : Fin 27) : Dev nD ≃ Dev nD := ⟨peer i, peer i, peer_peer i, peer_peer i⟩

/-! ## The pieces -/

/-- How many blocks of 256 rows piece `i` has. -/
def nb : Fin 27 → ℕ := ![1, 1, 2, 4, 8, 8, 8, 6, 6, 1, 1, 1, 1, 2, 2, 4, 4, 8, 8, 8, 8, 8, 8, 4, 6, 2, 8]

/-- The block within its quarter at which piece `i` starts. -/
def ob : Fin 27 → ℕ := ![0, 1, 2, 4, 8, 16, 24, 0, 6, 0, 0, 1, 1, 2, 2, 4, 4, 8, 8, 16, 16, 24, 24, 12, 16, 22, 24]

/-- The quarter piece `i` lies in, as its sender counts: its own (0), the one across y (1), across z (2), across both (3). -/
def qk : Fin 27 → Fin 4 := ![0, 0, 0, 0, 0, 0, 0, 3, 3, 0, 0, 0, 0, 0, 0, 0, 0, 0, 0, 0, 0, 0, 0, 2, 2, 1, 1]

/-- The quarter of kind `k` of device `c`. -/
def quarter (k : Fin 4) (c : Fin 8) : ℕ :=
  match k with
  | 0 => ![0, 1, 2, 3, 0, 1, 2, 3] c
  | 1 => ![2, 3, 0, 1, 2, 3, 0, 1] c
  | 2 => ![1, 0, 3, 2, 1, 0, 3, 2] c
  | 3 => ![3, 2, 1, 0, 3, 2, 1, 0] c

/-- The first block of piece `i` as device `c` sends it. -/
def sb (i : Fin 27) (c : Dev nD) : ℕ := 32 * quarter (qk i) c + ob i

/-- The first block of piece `i` as device `c` receives it. -/
def rb (i : Fin 27) (c : Dev nD) : ℕ := sb i (peer i c)

theorem rb_peer (i : Fin 27) (c : Dev nD) : rb i (peer i c) = sb i c := by unfold rb; rw [peer_peer]

theorem nb_pos : ∀ i, 0 < nb i := by decide
theorem nb_le : ∀ i, nb i ≤ 8 := by decide

/-- A received piece lies in the array. -/
theorem rb_le : ∀ (i : Fin 27) (c : Fin 8), rb i c + nb i ≤ 128 := by decide +kernel

/-- Of two pieces that a device receives, one ends before the other starts. -/
theorem rb_disj : ∀ (c : Fin 8) (i j : Fin 27), i ≠ j → rb i c + nb i ≤ rb j c ∨ rb j c + nb j ≤ rb i c := by decide +kernel

/-- Every block is part of a piece that the device receives. -/
theorem rb_cover : ∀ (c : Fin 8) (b : Fin 128), ∃ i : Fin 27, rb i c ≤ b.val ∧ b.val < rb i c + nb i := by decide +kernel

/-- Which piece block `b` of device `c` arrives with. -/
def own (c : Dev nD) (b : ℕ) : Fin 27 :=
  if h : ∃ i : Fin 27, rb i c ≤ b ∧ b < rb i c + nb i then h.choose else 0

theorem own_eq {c : Dev nD} {b : ℕ} {i : Fin 27} (h1 : rb i c ≤ b) (h2 : b < rb i c + nb i) : own c b = i := by
  have h : ∃ i : Fin 27, rb i c ≤ b ∧ b < rb i c + nb i := ⟨i, h1, h2⟩
  unfold own; rw [dif_pos h]
  by_contra hn
  have := h.choose_spec
  rcases rb_disj c _ _ hn with h' | h' <;> omega

/-- The piece of which piece `i` passes a part on (of pieces 9–26). -/
def par : Fin 27 → Fin 27 := ![0, 0, 0, 0, 0, 0, 0, 0, 0, 0, 0, 1, 1, 2, 2, 3, 3, 4, 4, 5, 5, 6, 6, 18, 20, 19, 21]

/-- A piece that is passed on is part of what its sender received. -/
theorem par_sub : ∀ (i : Fin 27) (c : Fin 8), 9 ≤ i.val → rb (par i) c ≤ sb i c ∧ sb i c + nb i ≤ rb (par i) c + nb (par i) := by
  decide +kernel

/-- The device whose input piece `i` was first read from, `n` steps at most before `c` received it. -/
def src : ℕ → Fin 27 → Dev nD → Dev nD
  | 0, _, c => c
  | n + 1, i, c => if i.val < 9 then peer i c else src n (par i) (peer i c)

/-- The device whose input device `c` receives a part of as piece `i`. -/
def origin (i : Fin 27) (c : Dev nD) : Dev nD := src 3 i c

theorem origin_first : ∀ (i : Fin 27) (c : Fin 8), i.val < 9 → origin i c = peer i c := by decide +kernel
theorem origin_par : ∀ (i : Fin 27) (c : Fin 8), 9 ≤ i.val → origin i c = origin (par i) (peer i c) := by decide +kernel

/-- What a device receives comes from a device across x of it: one whose first coordinate is not its own. -/
theorem origin_x : ∀ (i : Fin 27) (c : Fin 8), (origin i c).val / 4 = 1 - c.val / 4 := by decide +kernel

/-! ## The order of the waits -/

/-- When piece `i` is waited for, among the 27 arrivals. -/
def posn : Fin 27 → ℕ := ![0, 1, 2, 3, 4, 5, 6, 21, 22, 8, 7, 10, 9, 12, 11, 14, 13, 16, 15, 18, 17, 20, 19, 23, 25, 24, 26]

/-- When the departure of piece `i` is waited for, among the 27. -/
def wpos : Fin 27 → ℕ := ![0, 1, 2, 3, 4, 5, 6, 7, 8, 9, 16, 10, 17, 11, 18, 12, 19, 13, 20, 14, 21, 15, 22, 23, 24, 25, 26]

theorem posn_inj : ∀ i j, posn i = posn j → i = j := by decide +kernel
theorem wpos_inj : ∀ i j, wpos i = wpos j → i = j := by decide +kernel
theorem posn_le : ∀ i, posn i ≤ 26 := by decide
theorem wpos_le : ∀ i, wpos i ≤ 26 := by decide

/-- The level of the arrival of piece `i`: one more for every time it is passed on. -/
def lvl : Fin 27 → ℕ := ![1, 1, 1, 1, 1, 1, 1, 1, 1, 2, 2, 2, 2, 2, 2, 2, 2, 2, 2, 2, 2, 2, 2, 3, 3, 3, 3]

theorem lvl_pos : ∀ i, 0 < lvl i := by decide

end Cert.Proof
-- ==== Proof.Common.lean ====
/-
  The cells, the schedule and the contents of the all-reduce, for any floating-point carrier: what each semaphore hands over, what
  each device owes, and the levels under which the waits are admissible.

  Piece `i` arriving at `c` is signalled on `c`'s receive cell `i`; the landing hands `c` the rows of its landing buffer that
  the piece fills, at the contents of the input they were first read from. Piece `i` leaving `c` is signalled on `c`'s send cell `i`, which
  hands nothing over: the sender keeps a share of what it sends.
-/
module

public import proofs.«01_k».proof.Proof.Mesh
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra: the pipeline library's copy, the rounds library's (one duty per round), the local transfers' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
/-- The rounds library's part: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-- The local transfers' counters. -/
abbrev EC : UEmb Counters 𝕄 := countersEmb

/-! ## The memrefs -/

abbrev xM : Memref sig .tc .hbm S32768x1024 .f32 := Memref.whole main_arg0
abbrev oM : Memref sig .tc .hbm S32768x1024 .f32 := Memref.whole main_v1_0
abbrev rM : Memref sig .tc .hbm S32768x1024 .f32 := Memref.whole main_v1_1
abbrev vxM : Memref sig .tc .vmem S3072x1024 .f32 := Memref.whole cc0_scratch3
abbrev vrM : Memref sig .tc .vmem S3072x1024 .f32 := Memref.whole cc0_scratch4
abbrev voM : Memref sig .tc .vmem S3072x1024 .f32 := Memref.whole cc0_scratch5

/-- The shape of piece `i`. -/
abbrev Sh (i : Fin 27) : Shape := ⟨2, ![256 * nb i, 1024]⟩

theorem Sh_numel_pos : ∀ i, 0 < (Sh i).numel := by decide +kernel

/-! ## The cells -/

/-- The receive, send and local semaphores. -/
def rS (i : Fin 27) : DmaSem sig := (⟨i.val, by omega⟩ : Fin 57)
def sS (i : Fin 27) : DmaSem sig := (⟨27 + i.val, by omega⟩ : Fin 57)
def lS (j : Fin 3) : DmaSem sig := (⟨54 + j.val, by omega⟩ : Fin 57)

abbrev rcell (c : Dev nD) (i : Fin 27) : GSem nD τ sig := ((c : Thread nD τ), .dma (rS i))
abbrev scell (c : Dev nD) (i : Fin 27) : GSem nD τ sig := ((c : Thread nD τ), .dma (sS i))
abbrev lcell (c : Dev nD) (j : Fin 3) : GSem nD τ sig := ((c : Thread nD τ), .dma (lS j))

/-- The number of a semaphore among the kernel's 57; 57 for any other. -/
def ixOf : SemLoc sig → ℕ
  | .dma s => (s : Fin 57).val
  | .reg _ => 57

theorem ixOf_r (i : Fin 27) : ixOf (.dma (rS i)) = i.val := rfl
theorem ixOf_s (i : Fin 27) : ixOf (.dma (sS i)) = 27 + i.val := rfl
theorem ixOf_l (j : Fin 3) : ixOf (.dma (lS j)) = 54 + j.val := rfl

/-- What a transfer of piece `i` credits. -/
def N (i : Fin 27) : ℕ := (main_v1_1 : Ref sig .tc).dmaCredit (Sh i) .f32
theorem N_pos (i : Fin 27) : 0 < N i := sig.dmaCredit_pos _ _ _ _ _ (Sh_numel_pos i)

/-- What a cell's one duty credits, by the cell's number. -/
def amt (n : ℕ) : ℕ := N ⟨n % 27, Nat.mod_lt _ (by decide)⟩
theorem amt_r (i : Fin 27) : amt i.val = N i := by unfold amt; congr 1; exact Fin.ext (Nat.mod_eq_of_lt i.isLt)
theorem amt_s (i : Fin 27) : amt (27 + i.val) = N i := by
  unfold amt; congr 1; exact Fin.ext (by show (27 + i.val) % 27 = i.val; omega)

/-! ## Rows -/

/-- The elements of the rows of blocks `b` to `b + n`. -/
def rows (b n : ℕ) : Finset S32768x1024.Idx :=
  Finset.univ.filter fun j => 256 * b ≤ (j 0 : ℕ) ∧ (j 0 : ℕ) < 256 * (b + n)

theorem mem_rows {b n : ℕ} {j : S32768x1024.Idx} : j ∈ rows b n ↔ 256 * b ≤ (j 0 : ℕ) ∧ (j 0 : ℕ) < 256 * (b + n) := by
  simp [rows]

/-- The rows of device `c`'s landing buffer that piece `i` fills. -/
abbrev R (i : Fin 27) (c : Dev nD) : Finset S32768x1024.Idx := rows (rb i c) (nb i)

theorem rows_sub {b n b' n' : ℕ} (h1 : b' ≤ b) (h2 : b + n ≤ b' + n') : rows b n ⊆ rows b' n' := fun j hj => by
  rw [mem_rows] at hj ⊢; omega

theorem own_of_mem {c : Dev nD} {i : Fin 27} {j : S32768x1024.Idx} (h : j ∈ R i c) : own c ((j 0 : ℕ) / 256) = i := by
  rw [mem_rows] at h
  exact own_eq (by omega) (by omega)

theorem R_disjoint {c : Dev nD} {i j : Fin 27} (h : i ≠ j) : Disjoint (R i c) (R j c) := by
  rw [Finset.disjoint_left]
  intro x hi hj
  exact h ((own_of_mem hi).symm.trans (own_of_mem hj))

theorem R_cover (c : Dev nD) : (Finset.univ.biUnion fun i => R i c) = (Finset.univ : Finset S32768x1024.Idx) := by
  refine Finset.eq_univ_iff_forall.mpr fun j => ?_
  have hj : (j 0 : ℕ) < 32768 := (j 0).isLt
  obtain ⟨i, h1, h2⟩ := rb_cover c ⟨(j 0 : ℕ) / 256, by omega⟩
  refine Finset.mem_biUnion.mpr ⟨i, Finset.mem_univ _, mem_rows.mpr ?_⟩
  have h1 : rb i c ≤ (j 0 : ℕ) / 256 := h1
  have h2 : (j 0 : ℕ) / 256 < rb i c + nb i := h2
  omega

/-- A rectangle of whole rows at block `b`, `n` blocks of them, is `rows b n`. -/
theorem rect_set {off size : Fin 2 → ℕ} {b n : ℕ} (ho : off = ![256 * b, 0]) (hs : size = ![256 * n, 1024])
    (inb : ∀ a, off a + size a ≤ S32768x1024.size a) :
    (Rect.unit (s := S32768x1024) off size inb).set = rows b n := by
  subst ho hs
  ext j
  have h1 : (j 1 : ℕ) < 1024 := (j 1).isLt
  rw [Rect.mem_set_unit, mem_rows]
  constructor
  · intro h
    have h0 := h 0
    simp only [Matrix.cons_val_zero] at h0
    omega
  · intro h a
    match a with
    | 0 => simp only [Matrix.cons_val_zero]; omega
    | 1 => simp only [Matrix.cons_val_one, Matrix.cons_val_zero]; omega

/-! ## Contents -/

variable (m : (ℓ : Loc nD τ sig) → Buf (Elt F) ℓ)

/-- Device `c`'s input. -/
def X (c : Dev nD) : S32768x1024.Idx → Elt F .f32 := m ((c : Thread nD τ).loc main_arg0)

/-- What device `c`'s landing buffer holds after all landings: at each row the input of the device the row was first read from. -/
def V (c : Dev nD) : S32768x1024.Idx → Elt F .f32 := fun j => X m (origin (own c ((j 0 : ℕ) / 256)) c) j

theorem V_eq {c : Dev nD} {i : Fin 27} {j : S32768x1024.Idx} (h : j ∈ R i c) : V m c j = X m (origin i c) j := by
  unfold V; rw [own_of_mem h]

/-- What device `c`'s result holds at the end: its own input and what landed, added. -/
def Vout [FloatOps F] (c : Dev nD) : S32768x1024.Idx → Elt F .f32 := fun j => FloatOps.addf (X m c j : F .f32) (V m c j)

/-- The source of piece `i` at device `c`: its input, for a piece that starts here, and what landed otherwise. -/
def srcOf (i : Fin 27) (c : Dev nD) : S32768x1024.Idx → Elt F .f32 := if i.val < 9 then X m c else V m c

/-- The rows of a piece hold at its sender what they are to hold at its receiver. -/
theorem src_eq {c : Dev nD} {i : Fin 27} {j : S32768x1024.Idx} (h : j ∈ R i (peer i c)) : srcOf m i c j = V m (peer i c) j := by
  rw [V_eq m h]
  unfold srcOf
  by_cases hi : i.val < 9
  · rw [if_pos hi, origin_first i _ hi, peer_peer]
  · rw [if_neg hi, origin_par i _ (by omega), peer_peer]
    refine V_eq m (rows_sub (par_sub i c (by omega)).1 (par_sub i c (by omega)).2 ?_)
    rwa [R, rb_peer] at h

/-! ## The schedule -/

/-- The piece `i` landed: its rows of the landing buffer, whole. -/
def recvPay (c : Dev nD) (i : Fin 27) : sProp 𝕄 := rM.view.loc (c : Thread nD τ) ↦[R i c]{fullShare} V m c

instance recvPay_storable (c : Dev nD) (i : Fin 27) : BI.Storable (upEmb : UEmb _ 𝕄) (recvPay (F := F) m c i) := by
  unfold recvPay; infer_instance

/-- One round on each send and receive cell, of one duty. -/
def rd : Rounds.Schedule (GSem nD τ sig) Unit 𝕄 where
  duties g r := if r = 0 ∧ g.1.2 = .tc ∧ ixOf g.2 < 54 then {()} else ∅
  unitless _ := False
  amount g _ _ := amt (ixOf g.2)
  payload g _ _ := if h : ixOf g.2 < 27 then recvPay m g.1.1 ⟨ixOf g.2, h⟩ else iprop(emp)
  amount_pos _ _ _ _ := N_pos _

instance rd_payload_storable (g : GSem nD τ sig) (r : ℕ) (d : Unit) :
    BI.Storable (upEmb : UEmb _ 𝕄) ((rd (F := F) m).payload g r d) := by
  show BI.Storable upEmb (if h : ixOf g.2 < 27 then recvPay m g.1.1 ⟨ixOf g.2, h⟩ else iprop(emp))
  split <;> infer_instance

section Sched
variable (c : Dev nD) (i : Fin 27)

theorem duties_r : (rd (F := F) m).duties (rcell c i) 0 = {()} := by
  dsimp only [rd]; exact if_pos ⟨rfl, rfl, by rw [ixOf_r]; omega⟩
theorem duties_s : (rd (F := F) m).duties (scell c i) 0 = {()} := by
  dsimp only [rd]; exact if_pos ⟨rfl, rfl, by rw [ixOf_s]; omega⟩
theorem duties_later (g : GSem nD τ sig) : ∀ r, 1 ≤ r → (rd (F := F) m).duties g r = ∅ :=
  fun r hr => by dsimp only [rd]; rw [if_neg fun h => by omega]
theorem amount_r : (rd (F := F) m).amount (rcell c i) 0 () = N i := amt_r i
theorem amount_s : (rd (F := F) m).amount (scell c i) 0 () = N i := amt_s i
theorem expect_r : (rd (F := F) m).expect (rcell c i) 0 = N i := by
  unfold Schedule.expect Schedule.amountOf; rw [duties_r, Finset.sum_singleton, amount_r]
theorem expect_s : (rd (F := F) m).expect (scell c i) 0 = N i := by
  unfold Schedule.expect Schedule.amountOf; rw [duties_s, Finset.sum_singleton, amount_s]
theorem payload_r : (rd (F := F) m).payload (rcell c i) 0 () = recvPay m c i := by
  dsimp only [rd]; rw [dif_pos (by rw [ixOf_r]; exact i.isLt)]; rfl
theorem payload_s : (rd (F := F) m).payload (scell c i) 0 () = iprop(emp) := by
  dsimp only [rd]; rw [dif_neg (by rw [ixOf_s]; omega)]
theorem rest_r : bigSep ((rd (F := F) m).duties (rcell c i) 0 \ ∅) (fun d => (rd (F := F) m).payload (rcell c i) 0 d) = recvPay m c i := by
  rw [Finset.sdiff_empty, duties_r, bigSep_singleton, payload_r]

end Sched

/-! ## What a device owes; the levels -/

/-- What a device owes that has sent the first `n` pieces: the receivers' credits of the others. -/
def owed (n : ℕ) (c : Dev nD) : CellTallies nD τ sig Unit :=
  ∑ i ∈ (Finset.univ : Finset (Fin 27)).filter (fun i => n ≤ i.val), tallyAt (rcell (peer i c) i) () (N i)

/-- A send pays the receiver's credit. -/
theorem owed_step (c : Dev nD) (i : Fin 27) :
    owed i.val c = owed (i.val + 1) c + tallyAt (rcell (peer i c) i) () (N i) := by
  unfold owed
  have h : (Finset.univ : Finset (Fin 27)).filter (fun j => i.val ≤ j.val)
      = insert i ((Finset.univ : Finset (Fin 27)).filter fun j => i.val + 1 ≤ j.val) := by
    ext j
    simp only [Finset.mem_filter, Finset.mem_univ, true_and, Finset.mem_insert]
    constructor
    · intro h
      rcases Nat.eq_or_lt_of_le h with h | h
      · exact Or.inl (Fin.ext h.symm)
      · exact Or.inr h
    · rintro (rfl | h)
      · exact le_rfl
      · omega
  rw [h, Finset.sum_insert (by simp), add_comm]

theorem owed_end {n : ℕ} (hn : 27 ≤ n) (c : Dev nD) : owed n c = 0 := by
  unfold owed
  rw [Finset.filter_false_of_mem (fun i _ => by omega)]
  exact Finset.sum_empty

theorem owed_pos {n : ℕ} {c : Dev nD} {g : GSem nD τ sig} {u : Unit} (h : 0 < owed n c g u) :
    ∃ i : Fin 27, n ≤ i.val ∧ g = rcell (peer i c) i := by
  unfold owed at h
  rw [Finset.sum_apply, Finsupp.finsetSum_apply] at h
  obtain ⟨i, hi, hne⟩ := Finset.exists_ne_zero_of_sum_ne_zero (Nat.pos_iff_ne_zero.mp h)
  rw [tallyAt_apply] at hne
  split at hne
  · next e => exact ⟨i, (Finset.mem_filter.mp hi).2, e.1⟩
  · exact absurd rfl hne

def L (g : GSem nD τ sig) : Finset Unit := if g.1.2 = .tc then {()} else ∅
/-- A receive cell's level is its piece's; everything else, waited for between, is at 0. -/
def lv (g : GSem nD τ sig) (_ : Unit) : ℕ := if h : ixOf g.2 < 27 then lvl ⟨ixOf g.2, h⟩ else 0

theorem L_of_ne (g : GSem nD τ sig) (h : g.1.2 ≠ .tc) : L g = ∅ := if_neg h
theorem L_tc (c : Dev nD) (sm : SemLoc sig) : L ((c : Thread nD τ), sm) = {()} := if_pos rfl
theorem lv_r (c : Dev nD) (i : Fin 27) : lv (rcell c i) () = lvl i := by
  unfold lv; rw [dif_pos (by rw [ixOf_r]; exact i.isLt)]; rfl
theorem lv_other (c : Dev nD) (sm : SemLoc sig) (h : 27 ≤ ixOf sm) : lv ((c : Thread nD τ), sm) () = 0 := by
  unfold lv; rw [dif_neg (by show ¬ ixOf sm < 27; omega)]

/-- A wait is admissible whose cell lies below every piece still to be sent. -/
theorem mayWait (c : Dev nD) (sm : SemLoc sig) (n : ℕ) (h : ∀ j : Fin 27, n ≤ j.val → lv ((c : Thread nD τ), sm) () < lvl j) :
    (levAts L lv : sProp 𝕄) ⊢ MayWait (c : Thread nD τ) sm () (owed n c) :=
  MayOwe.of_cut (L := L) (lev := lv) (lv ((c : Thread nD τ), sm) ())
    (fun p hp => by rw [Finset.mem_singleton.mp hp, L_tc]; exact Finset.mem_singleton_self _)
    (fun g u hg => by obtain ⟨i, -, rfl⟩ := owed_pos hg; rw [L_tc]; exact Finset.mem_singleton_self _)
    (fun p hp => by rw [Finset.mem_singleton.mp hp])
    (fun g u hg => by obtain ⟨i, hi, rfl⟩ := owed_pos hg; rw [lv_r]; exact h i hi)

/-- The waits on send cells and on local transfers always are. -/
theorem mayWait_other (c : Dev nD) (sm : SemLoc sig) (n : ℕ) (h : 27 ≤ ixOf sm) :
    (levAts L lv : sProp 𝕄) ⊢ MayWait (c : Thread nD τ) sm () (owed n c) :=
  mayWait c sm n fun j _ => by rw [lv_other c sm h]; exact lvl_pos j

/-- The wait for piece `i` is, once every piece of its level or below is sent. -/
theorem mayWait_r (c : Dev nD) (i : Fin 27) (n : ℕ) (h : ∀ j : Fin 27, n ≤ j.val → lvl i < lvl j) :
    (levAts L lv : sProp 𝕄) ⊢ MayWait (c : Thread nD τ) (.dma (rS i)) () (owed n c) :=
  mayWait c _ n fun j hj => by rw [show ((c : Thread nD τ), SemLoc.dma (rS i)) = rcell c i from rfl, lv_r]; exact h j hj

end Cert.Proof
-- ==== Proof.State.lean ====
/-
  What a device holds between two effects of its body, as a function of three counts, and the rules that step from one count to
  the next: `n` pieces sent, `t` half-steps of the arrivals done (a wait and an addition each), `w` departures waited for.
-/
module

public import proofs.«01_k».proof.Proof.Common

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## One member of a separating conjunction, exchanged -/

omit [FloatOps F] in
/-- Of a conjunction over all pieces the member at `i` can be taken out and another put in its place. -/
theorem bigSep_step {Φ Ψ : Fin 27 → sProp 𝕄} (i : Fin 27) (h : ∀ j, j ≠ i → Φ j = Ψ j) :
    bigSep Finset.univ Φ ⊢ iprop(Φ i ∗ (Ψ i -∗ bigSep Finset.univ Ψ)) := by
  rw [bigSep_univ_split i (Φ := Φ), bigSep_univ_split i (Φ := Ψ),
    bigSep_congr (s := Finset.univ.erase i) (fun j hj => h j (Finset.ne_of_mem_erase hj))]
  show iprop(Φ i ∗ bigSep (Finset.univ.erase i) Ψ) ⊢ iprop(Φ i ∗ (Ψ i -∗ (Ψ i ∗ bigSep (Finset.univ.erase i) Ψ)))
  iintro ⟨Hi, Hr⟩
  isplitl [Hi]; · iexact Hi
  iintro Hn
  isplitl [Hn] <;> iassumption

/-! ## The state -/

/-- The cells' invariants and that all have reached round 0: for all devices, and lasting. -/
def recs (κ : GSem nD τ sig → ℕ) : sProp 𝕄 :=
  bigSep Finset.univ fun p : Dev nD × Fin 27 =>
    iprop((cellInv ER (rd m) (κ (rcell p.1 p.2)) (rcell p.1 p.2) ∗ reached ER (rcell p.1 p.2) 0)
      ∗ (cellInv ER (rd m) (κ (scell p.1 p.2)) (scell p.1 p.2) ∗ reached ER (scell p.1 p.2) 0))

instance recs_persistent (κ : GSem nD τ sig → ℕ) : BI.Persistent (recs m κ) := by unfold recs; infer_instance

omit [FloatOps F] in
theorem recs_at (κ : GSem nD τ sig → ℕ) (c : Dev nD) (i : Fin 27) :
    recs m κ ⊢ iprop((cellInv ER (rd m) (κ (rcell c i)) (rcell c i) ∗ reached ER (rcell c i) 0)
      ∗ (cellInv ER (rd m) (κ (scell c i)) (scell c i) ∗ reached ER (scell c i) 0)) :=
  bigSep_elim (Finset.mem_univ (c, i))

/-- What device `c` holds to send piece `i`: the two duties it pays, its position, and the rows the piece lands in. -/
def toSend (c : Dev nD) (i : Fin 27) : sProp 𝕄 :=
  iprop(dutyTok ER (scell c i) 0 () ∗ dutyTok ER (rcell (peer i c) i) 0 () ∗ atPos ER (scell c i) 0 ∅ 0
    ∗ ∃ f, rM.view.loc ((peer i c : Dev nD) : Thread nD τ) ↦[R i (peer i c)]{fullShare} f)

/-- The sending side of piece `i`: to be sent, in flight or gone, closed. -/
def sendSide (n w : ℕ) (c : Dev nD) (i : Fin 27) : sProp 𝕄 :=
  if n ≤ i.val then toSend c i
  else if w ≤ wpos i then iprop(cred (tallyAt (scell c i) () (N i)) ∗ atPos ER (scell c i) 0 ∅ 0)
  else semVal (scell c i) 0

/-- The receiving side of piece `i`: to come, or landed, the cell closed and a share of the rows kept. -/
def recvSide (t : ℕ) (c : Dev nD) (i : Fin 27) : sProp 𝕄 :=
  if t ≤ 2 * posn i then iprop(cred (tallyAt (rcell c i) () (N i)) ∗ atPos ER (rcell c i) 0 ∅ 0)
  else iprop(semVal (rcell c i) 0 ∗ ∃ q, rM.view.loc (c : Thread nD τ) ↦[R i c]{q} V m c)

/-- The rows of the result that piece `i` is added into: at anything, or final. -/
def outSide (t : ℕ) (c : Dev nD) (i : Fin 27) : sProp 𝕄 :=
  if t ≤ 2 * posn i + 1 then iprop(∃ f, oM.view.loc (c : Thread nD τ) ↦[R i c]{fullShare} f)
  else oM.view.loc (c : Thread nD τ) ↦[R i c]{fullShare} Vout m c

/-- The three scratch buffers and the three local semaphores, which every addition uses and leaves free. -/
def scr (c : Dev nD) : sProp 𝕄 :=
  iprop((∃ f, vxM.view.loc (c : Thread nD τ) ↦[Finset.univ]{fullShare} f) ∗ (∃ f, vrM.view.loc (c : Thread nD τ) ↦[Finset.univ]{fullShare} f)
    ∗ (∃ f, voM.view.loc (c : Thread nD τ) ↦[Finset.univ]{fullShare} f)
    ∗ semVal (lcell c 0) 0 ∗ semVal (lcell c 1) 0 ∗ semVal (lcell c 2) 0)

/-- A share of the device's own input. -/
def xHeld (c : Dev nD) : sProp 𝕄 := iprop(∃ q, xM.view.loc (c : Thread nD τ) ↦[Finset.univ]{q} X m c)

/-- The device's state. -/
def St (κ : GSem nD τ sig → ℕ) (c : Dev nD) (n t w : ℕ) : sProp 𝕄 :=
  iprop(recs m κ ∗ levAts L lv ∗ (∃ W, owes (c : Thread nD τ) (owed n c) W) ∗ xHeld m c
    ∗ bigSep Finset.univ (sendSide n w c) ∗ bigSep Finset.univ (recvSide m t c) ∗ bigSep Finset.univ (outSide m t c) ∗ scr c)

/-- A program run on device `c`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Waiting for an arrival -/

omit [FloatOps F] in
theorem recvSide_step {c : Dev nD} {t : ℕ} {i : Fin 27} (h : t = 2 * posn i) (j : Fin 27) (hj : j ≠ i) :
    recvSide (F := F) m t c j = recvSide m (t + 1) c j := by
  have hne : posn j ≠ posn i := fun e => hj (posn_inj _ _ e)
  unfold recvSide
  by_cases hc : t ≤ 2 * posn j
  · rw [if_pos hc, if_pos (by omega)]
  · rw [if_neg hc, if_neg (by omega)]

theorem outSide_step {c : Dev nD} {t : ℕ} {i : Fin 27} (h : t = 2 * posn i + 1) (j : Fin 27) (hj : j ≠ i) :
    outSide (F := F) m t c j = outSide m (t + 1) c j := by
  have hne : posn j ≠ posn i := fun e => hj (posn_inj _ _ e)
  unfold outSide
  by_cases hc : t ≤ 2 * posn j + 1
  · rw [if_pos hc, if_pos (by omega)]
  · rw [if_neg hc, if_neg (by omega)]

theorem outSide_wait {c : Dev nD} {t : ℕ} {i : Fin 27} (h : t = 2 * posn i) :
    (outSide m t c : Fin 27 → sProp 𝕄) = outSide m (t + 1) c := by
  funext j
  unfold outSide
  by_cases hc : t ≤ 2 * posn j + 1
  · rw [if_pos hc, if_pos (by omega)]
  · rw [if_neg hc, if_neg (by omega)]

omit [FloatOps F] in
theorem recvSide_add {c : Dev nD} {t : ℕ} {i : Fin 27} (h : t = 2 * posn i + 1) :
    (recvSide m t c : Fin 27 → sProp 𝕄) = recvSide m (t + 1) c := by
  funext j
  unfold recvSide
  by_cases hc : t ≤ 2 * posn j
  · rw [if_pos hc, if_pos (by omega)]
  · rw [if_neg hc, if_neg (by omega)]

/-- The wait for piece `i`. -/
theorem step_recv (κ : GSem nD τ sig → ℕ) {c : Dev nD} {n t w : ℕ} (i : Fin 27) {α : Type} {Q : α → sProp 𝕄}
    {s' : Shape} {e' : EltTy} {sp sp' : Space} {s : Shape} {sem : DmaSem sig}
    {srcw : Memref sig .tc sp' s' e'} {dstw : Memref sig .tc sp s .f32} {hsrc : srcw.view.WordExact} {hdst : dstw.view.WordExact}
    {k : PUnit → Prog (TpuEff nD τ sig (Elt F) Λ₀ .tc) α}
    (hsem : sem = rS i) (hN : dstw.view.dmaCredit = N i) (ht : t = 2 * posn i)
    (hlev : ∀ j : Fin 27, n ≤ j.val → lvl i < lvl j)
    (hk : St m κ c n (t + 1) w ⊢ run c (k ⟨⟩) Q) :
    St m κ c n t w ⊢ run c (.op (.waitDma2 sem srcw dstw hsrc hdst) k) Q := by
  subst hsem
  unfold St
  iintro ⟨#Hrec, #Hlev, ⟨%W, HO⟩, Hx, HS, HR, Hout, Hscr⟩
  ihave HR := (bigSep_step (Ψ := recvSide m (t + 1) c) i (recvSide_step m ht)) $$ HR
  icases HR with ⟨Hi, HR⟩
  ihave Hrec' := (recs_at m κ c i) $$ Hrec
  icases Hrec' with ⟨⟨#HI, -⟩, -⟩
  ihave Hi := (Entails.of_eq (show recvSide m t c i = iprop(cred (tallyAt (rcell c i) () (N i)) ∗ atPos ER (rcell c i) 0 ∅ 0) from by
    unfold recvSide; rw [if_pos (by omega)])) $$ Hi
  icases Hi with ⟨Hc, Hat⟩
  iapply (Rounds.wp_wait_rest_token 𝒱₀ ER (rd m) (c : Thread nD τ) none (κ := κ (rcell c i))
      (wpE_waitDma2_eq 𝒱₀ (c : Thread nD τ) none Set.univ) (Set.mem_univ _) () (O := owed n c) (W := W) (R := 0) (m := 0) (T := ∅)
      (by rw [Nat.zero_add, hN]; exact (expect_r m c i).symm)) $$ [Hc HO Hat]
  · isplitr; · iexact HI
    isplitl [Hc]; · rw [hN]; iexact Hc
    isplitl [HO]; · iexact HO
    isplitr; · iapply (mayWait_r c i n hlev); iexact Hlev
    iexact Hat
  iintro ⟨HO, Hat, -, Hpay⟩
  ihave Hp := (Entails.of_eq (rest_r m c i)) $$ Hpay
  imod (Rounds.cell_close ER (rd m) (Set.mem_univ (κ (rcell c i))) (fun h => h) (R := 0 + 1) (duties_later m (rcell c i))) $$ [Hat] with Hz
  · isplitr; · iexact HI
    iexact Hat
  ihave HR := HR $$ [Hp Hz]
  · unfold recvSide; rw [if_neg (by omega)]
    isplitl [Hz]; · iexact Hz
    iexists fullShare; unfold recvPay; iexact Hp
  iapply hk
  unfold St
  isplitr; · iexact Hrec
  isplitr; · iexact Hlev
  isplitl [HO]; · iexists _; iexact HO
  isplitl [Hx]; · iexact Hx
  isplitl [HS]; · iexact HS
  isplitl [HR]; · iexact HR
  isplitl [Hout]; · rw [outSide_wait m ht]; iexact Hout
  iexact Hscr

/-! ## Waiting for a departure -/

omit [FloatOps F] in
theorem sendSide_wait {c : Dev nD} {n w : ℕ} {i : Fin 27} (h : w = wpos i) (j : Fin 27) (hj : j ≠ i) :
    sendSide (F := F) n w c j = sendSide n (w + 1) c j := by
  have hne : wpos j ≠ wpos i := fun e => hj (wpos_inj _ _ e)
  unfold sendSide
  by_cases hc : w ≤ wpos j
  · rw [if_pos hc, if_pos (by omega : w + 1 ≤ wpos j)]
  · rw [if_neg hc, if_neg (by omega : ¬ w + 1 ≤ wpos j)]

/-- The wait for the departure of piece `i`. -/
theorem step_sent (κ : GSem nD τ sig → ℕ) {c : Dev nD} {n t w : ℕ} (i : Fin 27) {α : Type} {Q : α → sProp 𝕄}
    {s' : Shape} {e' : EltTy} {sp sp' : Space} {s : Shape} {sem : DmaSem sig}
    {srcw : Memref sig .tc sp' s' e'} {dstw : Memref sig .tc sp s .f32} {hsrc : srcw.view.WordExact} {hdst : dstw.view.WordExact}
    {k : PUnit → Prog (TpuEff nD τ sig (Elt F) Λ₀ .tc) α}
    (hsem : sem = sS i) (hN : dstw.view.dmaCredit = N i) (hn : i.val < n) (hw : w = wpos i)
    (hk : St m κ c n t (w + 1) ⊢ run c (k ⟨⟩) Q) :
    St m κ c n t w ⊢ run c (.op (.waitDma2 sem srcw dstw hsrc hdst) k) Q := by
  subst hsem
  unfold St
  iintro ⟨#Hrec, #Hlev, ⟨%W, HO⟩, Hx, HS, HR, Hout, Hscr⟩
  ihave HS := (bigSep_step (Ψ := sendSide n (w + 1) c) i (sendSide_wait hw)) $$ HS
  icases HS with ⟨Hi, HS⟩
  ihave Hrec' := (recs_at m κ c i) $$ Hrec
  icases Hrec' with ⟨-, #HI, -⟩
  ihave Hi := (Entails.of_eq (show sendSide n w c i = iprop(cred (tallyAt (scell c i) () (N i)) ∗ atPos ER (scell c i) 0 ∅ 0) from by
    unfold sendSide; rw [if_neg (by omega), if_pos (by omega)])) $$ Hi
  icases Hi with ⟨Hc, Hat⟩
  iapply (Rounds.wp_wait_rest_token 𝒱₀ ER (rd m) (c : Thread nD τ) none (κ := κ (scell c i))
      (wpE_waitDma2_eq 𝒱₀ (c : Thread nD τ) none Set.univ) (Set.mem_univ _) () (O := owed n c) (W := W) (R := 0) (m := 0) (T := ∅)
      (by rw [Nat.zero_add, hN]; exact (expect_s m c i).symm)) $$ [Hc HO Hat]
  · isplitr; · iexact HI
    isplitl [Hc]; · rw [hN]; iexact Hc
    isplitl [HO]; · iexact HO
    isplitr; · iapply (mayWait_other c _ n (by rw [ixOf_s]; omega)); iexact Hlev
    iexact Hat
  iintro ⟨HO, Hat, -, -⟩
  imod (Rounds.cell_close ER (rd m) (Set.mem_univ (κ (scell c i))) (fun h => h) (R := 0 + 1) (duties_later m (scell c i))) $$ [Hat] with Hz
  · isplitr; · iexact HI
    iexact Hat
  ihave HS := HS $$ [Hz]
  · unfold sendSide; rw [if_neg (by omega), if_neg (by omega)]; iexact Hz
  iapply hk
  unfold St
  isplitr; · iexact Hrec
  isplitr; · iexact Hlev
  isplitl [HO]; · iexists _; iexact HO
  isplitl [Hx]; · iexact Hx
  isplitl [HS]; · iexact HS
  isplitl [HR]; · iexact HR
  isplitl [Hout]; · iexact Hout
  iexact Hscr

/-! ## Sending -/

omit [FloatOps F] in
theorem sendSide_send {c : Dev nD} {w : ℕ} {i : Fin 27} (j : Fin 27) (hj : j ≠ i) :
    sendSide (F := F) i.val w c j = sendSide (i.val + 1) w c j := by
  have hne : j.val ≠ i.val := fun e => hj (Fin.ext e)
  unfold sendSide
  by_cases hc : i.val ≤ j.val
  · rw [if_pos hc, if_pos (by omega : i.val + 1 ≤ j.val)]
  · rw [if_neg hc, if_neg (by omega : ¬ i.val + 1 ≤ j.val)]

omit [FloatOps F] in
/-- A held share of elements, and besides it a share of some of them. -/
theorem share_sub {ℓ : Loc nD τ sig} {I J : Finset (Idx ℓ)} {f : Buf (Elt F) ℓ} (q : PosShare TreeShare) (h : J ⊆ I) :
    (ℓ ↦[I]{q} f : sProp 𝕄) ⊢ iprop((∃ q', ℓ ↦[I]{q'} f) ∗ ∃ q', ℓ ↦[J]{q'} f) := by
  refine (pointsTo_share (PosShare.mem_left_op_right q)).1.trans ?_
  refine (sep_mono_right (pointsTo_split_subset h).1).trans ?_
  iintro ⟨H1, H2, -⟩
  isplitl [H1]
  · iexists _; iexact H1
  · iexists _; iexact H2

omit [FloatOps F] in
/-- Writing into a view what another reads at the same elements leaves there what the other's buffer holds. -/
theorem copy_at {e : EltTy} {κ₁ : Kind} {sp₁ : Space} {s : Shape} (v : View sig κ₁ sp₁ s e) (fd : v.ty.Contents (Elt F)) (w : s.Idx → Elt F e)
    (g : v.ty.Contents (Elt F)) (h : ∀ x, g (v.emb x) = _root_.cast (congrArg (Elt F) v.elt_eq.symm) (w x)) :
    ∀ j ∈ v.set, v.write (Elt F) fd w Finset.univ j = g j := by
  intro j hj
  obtain ⟨x, -, rfl⟩ := Finset.mem_map.mp hj
  rw [View.write_emb_of_mem _ _ (Finset.mem_univ x), h]

/-- The send of piece `i` from a memref whose rows the device holds a share of. -/
theorem send_core (κ : GSem nD τ sig → ℕ) {c d : Dev nD} (i : Fin 27) {α : Type} {Q : α → sProp 𝕄} {W : Waits sig Unit}
    {size off : Fin 2 → ℕ} {ss rs : DmaSem sig} {inb : ∀ a, off a + size a ≤ S32768x1024.size a}
    {h2 : ∀ a, (Rect.unit (s := S32768x1024) off size inb).stride a = 1}
    {sM : Memref sig .tc .hbm ⟨2, size⟩ .f32} {fs : Buf (Elt F) (sM.view.loc (c : Thread nD τ))} {q : PosShare TreeShare}
    {hsc : (rM.slice (Rect.unit (s := S32768x1024) off size inb) h2 : Memref sig (Dev.tc d : Thread nD τ).2.kind .hbm ⟨2, size⟩ .f32).view.ref.isScScratch = false}
    {hsrc : sM.view.WordExact} {hdst : (rM.slice (Rect.unit (s := S32768x1024) off size inb) h2).view.WordExact}
    {hsem : DmaTarget.Typed .hbm (.dma rs) (.remote (Dev.tc d : Thread nD τ)
      (rM.slice (Rect.unit (s := S32768x1024) off size inb) h2 : Memref sig (Dev.tc d : Thread nD τ).2.kind .hbm ⟨2, size⟩ .f32) (.dma ss) hsc)}
    {k : PUnit → Prog (TpuEff nD τ sig (Elt F) Λ₀ .tc) α}
    (hd : d = peer i c) (hss : ss = sS i) (hrs : rs = rS i) (hsz : size = ![256 * nb i, 1024]) (ho : off = ![256 * sb i c, 0])
    (hval : ∀ x, V m (peer i c) ((rM.slice (Rect.unit (s := S32768x1024) off size inb) h2).view.emb x) = sM.view.read (Elt F) fs x) :
    iprop(recs m κ ∗ toSend c i ∗ owes (c : Thread nD τ) (owed i.val c) W ∗ (sM.view.loc (c : Thread nD τ) ↦[sM.view.set]{q} fs))
      ⊢ iprop((iprop((cred (tallyAt (scell c i) () (N i)) ∗ atPos ER (scell c i) 0 ∅ 0) ∗ owes (c : Thread nD τ) (owed (i.val + 1) c) W)
            -∗ run c (k ⟨⟩) Q)
          -∗ run c (.op (.enqueueDma sM (.remote (Dev.tc d : Thread nD τ) (rM.slice (Rect.unit (s := S32768x1024) off size inb) h2) (.dma ss) hsc)
            (.dma rs) hsrc hdst hsem) k) Q) := by
  subst hd hss hrs hsz
  have hset : (rM.slice (Rect.unit (s := S32768x1024) off ![256 * nb i, 1024] inb) h2).view.set = R i (peer i c) := by
    exact (View.set_slice_whole main_v1_1 _).trans ((rect_set ho rfl inb).trans (by rw [R, rb_peer]))
  have hw : ∀ fd : Buf (Elt F) (rM.view.loc ((peer i c : Dev nD) : Thread nD τ)),
      iprop(cellInv ER (rd m) (κ (scell c i)) (scell c i) ∗ cellInv ER (rd m) (κ (rcell (peer i c) i)) (rcell (peer i c) i)
        ∗ (sM.view.loc (c : Thread nD τ) ↦[sM.view.set]{q} fs)
        ∗ (rM.view.loc ((peer i c : Dev nD) : Thread nD τ)
            ↦[(rM.slice (Rect.unit (s := S32768x1024) off ![256 * nb i, 1024] inb) h2).view.set]{fullShare} fd)
        ∗ owes (c : Thread nD τ) (owed i.val c) W
        ∗ dutyTok ER (scell c i) 0 () ∗ reached ER (scell c i) 0
        ∗ dutyTok ER (rcell (peer i c) i) 0 () ∗ reached ER (rcell (peer i c) i) 0)
      ⊢ iprop((iprop(cred (tallyAt (scell c i) () (N i)) ∗ owes (c : Thread nD τ) (owed (i.val + 1) c) W) -∗ run c (k ⟨⟩) Q)
          -∗ run c (.op (.enqueueDma sM (.remote (Dev.tc (peer i c) : Thread nD τ)
            (rM.slice (Rect.unit (s := S32768x1024) off ![256 * nb i, 1024] inb) h2) (.dma (sS i)) hsc) (.dma (rS i)) hsrc hdst hsem) k) Q) :=
    fun fd => Rounds.wp_send_pointsTo (c' := ((peer i c : Dev nD) : Thread nD τ)) (src := sM) (dst := (rM.slice (Rect.unit (s := S32768x1024) off ![256 * nb i, 1024] inb) h2
        : Memref sig (Dev.tc (peer i c) : Thread nD τ).2.kind .hbm ⟨2, ![256 * nb i, 1024]⟩ .f32)) (fs := fs) (q := q) 𝒱₀ ER (rd m) (c : Thread nD τ) none (κ₁ := κ (scell c i)) (κ₂ := κ (rcell (peer i c) i))
      (r₁ := 0) (r₂ := 0) (d₁ := ()) (d₂ := ()) (fd := fd)
      (by rw [duties_s]; exact Finset.mem_singleton_self _) (by rw [duties_r]; exact Finset.mem_singleton_self _)
      () () (N i) rfl (amount_s m c i) (amount_r m (peer i c) i) (owed (i.val + 1) c) (owed_step c i) (W := W)
      (by rw [payload_s]; iintro -; iempintro)
      (by
        rw [payload_r, recvPay, ← hset]
        exact Entails.of_eq (pointsTo_congr (copy_at _ _ _ _ fun x => hval x)))
  unfold toSend
  iintro ⟨#Hrec, ⟨Hts, Htr, Hat, %fd, Hd⟩, HO, Hs⟩ Hk
  ihave Hrec1 := (recs_at m κ c i) $$ Hrec
  icases Hrec1 with ⟨-, #HI1, #Hr1⟩
  ihave Hrec2 := (recs_at m κ (peer i c) i) $$ Hrec
  icases Hrec2 with ⟨⟨#HI2, #Hr2⟩, -⟩
  iapply (hw fd) $$ [Hts Htr HO Hs Hd]
  · isplitr; · iexact HI1
    isplitr; · iexact HI2
    isplitl [Hs]; · iexact Hs
    isplitl [Hd]; · rw [hset]; iexact Hd
    isplitl [HO]; · iexact HO
    isplitl [Hts]; · iexact Hts
    isplitr; · iexact Hr1
    isplitl [Htr]; · iexact Htr
    iexact Hr2
  iintro ⟨Hc, HO⟩
  iapply Hk
  isplitr [HO]
  · isplitl [Hc] <;> iassumption
  · iexact HO

end Cert.Proof
-- ==== Proof.Pooled.lean ====
/-
  The launch of the all-reduce. The copies land in buffers that stand when the kernel starts, so what every device holds of them is
  pooled before the bodies begin and dealt again, each device taking the rows of its peers that it is to write: one step over all
  devices (`hglob`), which has the semaphores and the buffers of all of them.
-/
module

public import proofs.«01_k».proof.Proof.Common
public import Idealize.ShloMosaic.Harness.Basic

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation owing owing_of_ne launchCred scopedRest ownSems0 idleSems0 coreInit_boundary_owing)

variable {F : FTy → Type} [FloatOps F]

local notation "𝕄" => MT nD τ sig Unit (Elt F) ℕ UU ℕ

/-- The kernel's semaphores. -/
abbrev osem : Fin 57 → SemLoc sig := fun k => .dma (k : DmaSem sig)

theorem ownSemFacts : Pipeline.OwnSemFacts cfg0.spec osem where
  isScoped := by decide
  inj := fun a b h => by injection h
  disj := fun k w => w.elim0

theorem all_scoped : ∀ sm : SemLoc sig, sm.isScoped .tc = true := by decide

/-- The tables of the region: none. -/
abbrev adm : (p : Fin 1) → (pcfgs (F := F) p).Adm := fun p => (cfgs p).toPCfg_adm

omit [FloatOps F] in
/-- A conjunction over the region's windows, of which there are none. -/
theorem bigSep_none (Φ : Fin 0 → sProp 𝕄) : bigSep Finset.univ Φ = BI.emp := by
  rw [Finset.univ_eq_empty, BI.bigSep_empty]

omit [FloatOps F] in
/-- A device's scoped semaphores, all zero, are the kernel's and those it leaves alone. -/
theorem scoped_eq (c : Dev nD) : (scopedSems0 (c : Thread nD τ) : sProp 𝕄)
    ⊢ iprop(ownSems0 osem c ∗ idleSems0 cfgs cellOf_inj 0 ownSemFacts c) := by
  rw [Pipeline.scopedSems0_split cfgs cellOf_inj 0 winFacts0.to₀ ownSemFacts c]
  iintro ⟨⟨-, H1⟩, H2⟩
  isplitl [H1] <;> iassumption

omit [FloatOps F] in
theorem scoped_join (c : Dev nD) : iprop(ownSems0 osem c ∗ idleSems0 cfgs cellOf_inj 0 ownSemFacts c)
    ⊢ (scopedSems0 (c : Thread nD τ) : sProp 𝕄) := by
  rw [Pipeline.scopedSems0_split cfgs cellOf_inj 0 winFacts0.to₀ ownSemFacts c]
  iintro ⟨H1, H2⟩
  isplitl [H1]
  · isplitr
    · unfold Pipeline.cellsSems0 Pipeline.PerCore.cellsSems0
      iapply (Entails.of_eq (bigSep_none _).symm)
      iempintro
    iexact H1
  iexact H2

variable (m : (ℓ : Loc nD τ sig) → Buf (Elt F) ℓ) (ρ : Dev nD → PrngReg)
variable (dats : (p : Fin 1) → (c : Dev nD) → Dat τ (Elt F) Unit ℕ UU ℕ (cfgs p) c)

/-- What a device holds before its program and after it. -/
def pre (O₀ : Dev nD → CellTallies nD τ sig Unit) (G' : Dev nD → sProp 𝕄) (c : Dev nD) : sProp 𝕄 :=
  iprop(scopedBufs (c : Thread nD τ) ∗ idleSems0 cfgs cellOf_inj 0 ownSemFacts c ∗ owes (c : Thread nD τ) (O₀ c) ∅
    ∗ levAts L lv ∗ launchCred O₀ c ∗ G' c)
def fin (Y : Dev nD → sProp 𝕄) (c : Dev nD) : sProp 𝕄 := iprop(Y c ∗ scopedSems0 (c : Thread nD τ))

theorem bigSep_sep3 (A B C : Dev nD → sProp 𝕄) : (bigSep Finset.univ fun c => iprop(A c ∗ B c ∗ C c))
    ⊢ (iprop((bigSep Finset.univ fun c => A c) ∗ (bigSep Finset.univ fun c => B c) ∗ (bigSep Finset.univ fun c => C c)) : sProp 𝕄) := by
  rw [bigSep_sep', bigSep_sep']

/-- What a device starts from, without what it does not need. -/
theorem core_start (O₀ : Dev nD → CellTallies nD τ sig Unit) (c : Dev nD) :
    coreInit (Ix := Unit) (Name := ℕ) (U := UU) (Lvl := ℕ) (owing O₀) 0 (⟨m, fun _ => 0, ρ⟩ : MemSt nD τ sig (Elt F)) (c : Thread nD τ)
      ⊢ (iprop((scopedBufs (c : Thread nD τ) ∗ idleSems0 cfgs cellOf_inj 0 ownSemFacts c ∗ owes (c : Thread nD τ) (O₀ c) ∅ ∗ launchCred O₀ c)
        ∗ levels0 c ∗ ownSems0 osem c ∗ unscopedBufs c (fun b => m ((c : Thread nD τ).loc b))) : sProp 𝕄) := by
  refine (coreInit_boundary_owing O₀ m ρ c).trans ?_
  unfold boundary
  iintro ⟨⟨Hsc, Hss, -⟩, Hub, -, HO, Hlv, -, Hcr⟩
  ihave Hss := (scoped_eq c) $$ Hss
  icases Hss with ⟨Hos, Hid⟩
  isplitl [Hsc Hid HO Hcr]
  · isplitl [Hsc]; · iexact Hsc
    isplitl [Hid]; · iexact Hid
    isplitl [HO]; · iexact HO
    iexact Hcr
  isplitl [Hlv]; · iexact Hlv
  isplitl [Hos]; · iexact Hos
  iexact Hub

omit [FloatOps F] in
theorem levels_assign :
    (bigSep Finset.univ fun c : Dev nD => (levels0 c : sProp 𝕄)) ⊢ |==> levAts L lv := by
  refine (Smoke.lev_assign_devs (nD := nD) (τ := τ) L lv).trans (BI.bupd_mono ?_)
  rw [show (fun g : GSem nD τ sig => if g.1.2 = .tc then L g else ∅) = L from funext fun g => by
    by_cases h : g.1.2 = .tc
    · rw [if_pos h]
    · rw [if_neg h, L_of_ne g h]]
  refine (show iprop(_ ∗ levAts L lv) ⊢ (levAts L lv : sProp 𝕄) from ?_)
  iintro ⟨-, H⟩
  iexact H

section Run

variable (O₀ : Dev nD → CellTallies nD τ sig Unit)

/-- The region of one device: from what it holds before its program to what it holds after. -/
theorem region (G' Y : Dev nD → sProp 𝕄) (c : Dev nD) (hbody : BodyObligation (dats 0 c) (defs₀ (F := F)) Variants.none () Set.univ)
    (howed₀ : (dats 0 c).owed 0 = O₀ c) (howedN : (dats 0 c).owed (Fin.last _) = 0)
    (hin : iprop((levAts L lv ∗ launchCred O₀ c ∗ G' c) ∗ scopedRest cfg0.spec c) ⊢ (dats 0 c).Φ 0)
    (hout : (dats 0 c).Φ (Fin.last cfg0.N) ⊢ iprop(Y c ∗ ownSems0 osem c ∗ scopedRest cfg0.spec c)) :
    pre O₀ G' c ⊢ wp frame (wpE (defs (F := F)) (Variants.lift Variants.none) (c : Thread nD τ) none) Set.univ (main (F := F) c)
      (fun _ => post (liftTc (fin Y) BI.emp) (c : Thread nD τ)) := by
  have hsb := Pipeline.scopedBufs_split (Ix := Unit) (Val := Elt F) (Name := ℕ) (U := UU) (Lvl := ℕ) (nD := nD) (τ := τ)
    cfgs 0 winFacts0.to₀.stage_scoped winFacts0.to₀.stage_inj stage_whole0 c
  rw [show main (F := F) c = .op (.customCall (Pipeline.entry 0) ()) fun _ => .ret ⟨⟩ from rfl]
  have hpf (q) : (BI.emp : sProp 𝕄) ⊢ Pipeline.prefHeld (pcfgs (F := F) 0).pre c q (adm (F := F) 0).1 := by
    unfold Pipeline.prefHeld
    exact Entails.of_eq (bigSep_none _).symm
  have harr : (BI.emp : sProp 𝕄) ⊢ (dats 0 c).arrays ((dats 0 c).arrAt · 0) := by
    unfold Dat.arrays; exact Entails.of_eq (bigSep_none _).symm
  have hwt : (BI.emp : sProp 𝕄) ⊢ Pipeline.PerCore.cellsWaits (fun _ => cfgs) dats () 0 c := by
    unfold Pipeline.PerCore.cellsWaits; exact Entails.of_eq (bigSep_none _).symm
  have hini : (BI.emp : sProp 𝕄) ⊢ Pipeline.PerCore.cellsInit (fun _ => cfgs) dats EP (fun _ => 0) 0 c := by
    unfold Pipeline.PerCore.cellsInit; exact Entails.of_eq (bigSep_none _).symm
  have htok : (BI.emp : sProp 𝕄) ⊢ Pipeline.PerCore.toksInit (fun _ => cfgs) EP 0 c := by
    unfold Pipeline.PerCore.toksInit; exact Entails.of_eq (bigSep_none _).symm
  have hpre : iprop(owes (c : Thread nD τ) (O₀ c) ∅)
      ⊢ Pipeline.EntryPre cfgs dats () EP (fun _ => 0) 0 c := by
    unfold Pipeline.EntryPre Pipeline.PerCore.EntryPre Dat.owesAt Pipeline.owesWithin
    rw [howed₀]
    iintro HO
    isplitr; · iapply harr; iempintro
    isplitl [HO]
    · iexists ∅; isplitr; · ipureintro; rw [Finset.coe_empty]; exact Set.empty_subset _
      iexact HO
    isplitr; · iapply hwt; iempintro
    isplitr; · iapply hini; iempintro
    iapply htok; iempintro
  have hpost : Pipeline.EntryPost cfgs dats () 0 c ⊢ (iprop(∃ W, owes (c : Thread nD τ) 0 W) : sProp 𝕄) := by
    unfold Pipeline.EntryPost Pipeline.PerCore.EntryPost Dat.owesAt Pipeline.owesWithin
    rw [howedN]
    iintro ⟨-, ⟨%W, -, HW⟩⟩
    iexists W; iexact HW
  have hend : iprop((dats 0 c).Φ (Fin.last cfg0.N) ∗ Pipeline.cellsSems0 cfgs 0 c ∗ Dat.staging cfg0 c ∗ idleSems0 cfgs cellOf_inj 0 ownSemFacts c)
      ⊢ iprop(Y c ∗ scopedSems0 (c : Thread nD τ) ∗ scopedBufs (c : Thread nD τ)) := by
    rw [hsb]
    iintro ⟨HΦ, -, Hst, Hid⟩
    ihave H := hout $$ HΦ
    icases H with ⟨HY, Hos, Hrest⟩
    isplitl [HY]; · iexact HY
    isplitl [Hos Hid]
    · iapply (scoped_join c); isplitl [Hos] <;> iassumption
    isplitl [Hst] <;> iassumption
  have hbegin : iprop((levAts L lv ∗ launchCred O₀ c ∗ G' c) ∗ Pipeline.prefHeld (pcfgs (F := F) 0).pre c (fun _ => fullShare.right) (adm (F := F) 0).1
      ∗ scopedRest cfg0.spec c) ⊢ (dats 0 c).Φ 0 := by
    iintro ⟨HX, -, HR⟩
    iapply hin
    isplitl [HX] <;> iassumption
  have hrule := (Pipeline.wp_customCall_entry_frame (pcfgs (F := F)) adm dats () EP (fun _ => 0) cellOf_inj 0 (defs₀ (F := F)) Variants.none
      (fun _ => fullShare.right) c Set.univ (fun _ _ => Set.mem_univ _) hbody.loose block_pos0 none (fun u h => nomatch h)
      (X := iprop(levAts L lv ∗ launchCred O₀ c ∗ G' c)) (Y := Y c) (R := scopedRest cfg0.spec c)
      (I := idleSems0 cfgs cellOf_inj 0 ownSemFacts c) (Entails.of_eq hsb)
      hbegin hend
      (α := PUnit) (k := fun _ => .ret ⟨⟩) (Q := fun _ => post (liftTc (fin Y) BI.emp) (c : Thread nD τ)))
  unfold pre
  iintro ⟨Hsc, Hid, HO, Hla, Hcr, HG⟩
  iapply hrule $$ [Hsc Hid HO Hla Hcr HG]
  · isplitl [HO]; · iapply hpre; iexact HO
    isplitr; · iapply (hpf fun _ => fullShare.right); iempintro
    isplitl [Hla Hcr HG]
    · isplitl [Hla]; · iexact Hla
      isplitl [Hcr] <;> iassumption
    isplitl [Hid] <;> iassumption
  iintro ⟨Hpost, HY, Hss, -⟩
  rw [wp_ret]; imodintro
  unfold post; simp only [liftTc_tc, fin]
  isplitl [HY Hss]
  · isplitl [HY] <;> iassumption
  iapply hpost; iexact Hpost

/-- The launch: what the bodies need is made from every device's semaphores and buffers and the launch's ghost state (`hu₀`, `hglob`). -/
theorem launch (G' Y : Dev nD → sProp 𝕄) (hbody : ∀ c, BodyObligation (dats 0 c) (defs₀ (F := F)) Variants.none () Set.univ)
    (howed₀ : ∀ c, (dats 0 c).owed 0 = O₀ c) (howedN : ∀ c, (dats 0 c).owed (Fin.last _) = 0)
    (hin : ∀ c, iprop((levAts L lv ∗ launchCred O₀ c ∗ G' c) ∗ scopedRest cfg0.spec c) ⊢ (dats 0 c).Φ 0)
    (hout : ∀ c, (dats 0 c).Φ (Fin.last cfg0.N) ⊢ iprop(Y c ∗ ownSems0 osem c ∗ scopedRest cfg0.spec c))
    (G : sProp 𝕄) (u₀ : UU) (hu₀ : ownU u₀ ⊢ |={Set.univ}=> G)
    (hglob : iprop((bigSep Finset.univ fun c : Dev nD => iprop(ownSems0 osem c ∗ unscopedBufs c (fun b => m ((c : Thread nD τ).loc b)))) ∗ G)
      ⊢ |={Set.univ}=> bigSep Finset.univ G')
    (QY : Dev nD → MemSt nD τ sig (Elt F) → Prop)
    (hY : ∀ c (s' : Phys nD τ sig (Elt F)), iprop(Y c ∗ SI s') ⊢ |={Set.univ}=> iprop(⌜QY c s'.mem⌝ ∗ SI s')) :
    θ_run (defs (F := F)) (onTc (τ := τ) (main (F := F))) ⟨m, fun _ => 0, ρ⟩ (fun r => (∀ c, QY c r.2) ∧ r.2.sem = fun _ => 0) := by
  classical
  refine (θ_run (defs (F := F)) _ _).mono
    (Q := fun r => (∀ c : Dev nD, QY c r.2 ∧ ∀ sm : SemLoc sig, sm.isScoped .tc = true → r.2.sem ((c : Thread nD τ), sm) = 0)
      ∧ ∀ g : GSem nD τ sig, g.1.2 ≠ .tc → r.2.sem g = 0)
    (fun r hr => ⟨fun c => (hr.1 c).1, sem_eq_zero_of_scoped all_scoped (sems_of_reads (fun c => (hr.1 c).2) hr.2)⟩)
    (adequate_tpu (defs (F := F)) _ _ _
      (reflect_intro_fupd_tc_sems (X := Unit) (Variants.lift Variants.none) (owing O₀) 0 (noBookings fun _ => le_rfl) (owing_of_ne O₀) u₀
        (fun _ => pre O₀ G') (fun _ => fin Y) (fun _ => iprop(emp)) Set.univ ?_
        (fun _ c => region dats O₀ G' Y c (hbody c) (howed₀ c) (howedN c) (hin c) (hout c)) fun _ => ?_))
  · have hcores : (bigSep Finset.univ fun c : Dev nD =>
          coreInit (Ix := Unit) (Name := ℕ) (U := UU) (Lvl := ℕ) (owing O₀) 0 (⟨m, fun _ => 0, ρ⟩ : MemSt nD τ sig (Elt F)) (c : Thread nD τ))
        ⊢ (iprop((bigSep Finset.univ fun c : Dev nD => iprop(scopedBufs (c : Thread nD τ) ∗ idleSems0 cfgs cellOf_inj 0 ownSemFacts c
              ∗ owes (c : Thread nD τ) (O₀ c) ∅ ∗ launchCred O₀ c))
            ∗ (bigSep Finset.univ fun c : Dev nD => levels0 c)
            ∗ (bigSep Finset.univ fun c : Dev nD => iprop(ownSems0 osem c ∗ unscopedBufs c (fun b => m ((c : Thread nD τ).loc b))))) : sProp 𝕄) := by
      refine (bigSep_mono fun c _ => core_start m ρ O₀ c).trans (bigSep_sep3 _ _ _)
    iintro ⟨Hcores, Hu⟩
    ihave Hc := hcores $$ Hcores
    icases Hc with ⟨H, Hlv, Hpool⟩
    imod levels_assign $$ Hlv with #Hla
    imod hu₀ $$ Hu with HG
    imod hglob $$ [Hpool HG] with HG'
    · isplitl [Hpool] <;> iassumption
    imodintro
    iexists ()
    isplitl
    · rw [show pre O₀ G' = fun c : Dev nD => iprop(scopedBufs (c : Thread nD τ) ∗ idleSems0 cfgs cellOf_inj 0 ownSemFacts c
        ∗ owes (c : Thread nD τ) (O₀ c) ∅ ∗ levAts L lv ∗ launchCred O₀ c ∗ G' c) from rfl]
      simp only [bigSep_sep']
      icases H with ⟨Hsc, Hid, HO, Hcr⟩
      isplitl [Hsc]; · iexact Hsc
      isplitl [Hid]; · iexact Hid
      isplitl [HO]; · iexact HO
      isplitr; · iapply (BI.bigSep_intro_persistent (S := Finset.univ) fun (c : Dev nD) _ => (BI.Entails.refl (levAts L lv : sProp 𝕄))); iexact Hla
      isplitl [Hcr] <;> iassumption
    · iempintro
  · have hcore (c : Dev nD) (s' : Phys nD τ sig (Elt F)) : iprop(fin Y c ∗ SI s') ⊢ |={Set.univ}=>
        iprop(⌜QY c s'.mem ∧ ∀ sm : SemLoc sig, sm.isScoped .tc = true → s'.mem.sem ((c : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr; · ipureintro; exact ⟨hy, hz⟩
      iexact HSI
    iintro ⟨H, -, Hsc⟩ %s' HSI
    ihave %hsc := (scSems_read_zero m ρ s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

end Run

end Cert.Proof
-- ==== Proof.Setup.lean ====
/-
  The start of the run: the ghost state of all the cells, the cells' invariants, and what is dealt to each device from the memory and
  the zero semaphores of all of them. A device is dealt, besides its own input and its own result, the rows of its neighbours' landing
  buffers that it is going to fill.
-/
module

public import proofs.«01_k».proof.Proof.State
public import proofs.«01_k».proof.Proof.Pooled

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (launchCred ownSems0)

variable {F : FTy → Type} [FloatOps F]

local notation "𝕄" => MT nD τ sig Unit (Elt F) ℕ UU ℕ

variable (m : (ℓ : Loc nD τ sig) → Buf (Elt F) ℓ)

/-- A piece at a device. -/
abbrev P : Type := Dev nD × Fin 27

/-! ## The cells -/

/-- A receive cell or a send cell. -/
def gcell : P ⊕ P → GSem nD τ sig
  | .inl p => rcell p.1 p.2
  | .inr p => scell p.1 p.2

theorem gcell_inj : Function.Injective gcell := by
  have hd (x : P ⊕ P) : (gcell x).1.1 = x.elim Prod.fst Prod.fst := by cases x <;> rfl
  have hi (x : P ⊕ P) : ixOf (gcell x).2 = x.elim (fun p => p.2.val) (fun p => 27 + p.2.val) := by cases x <;> rfl
  intro x y h
  have h1 := hd x; rw [h, hd y] at h1
  have h2 := hi x; rw [h, hi y] at h2
  rcases x with ⟨c, i⟩ | ⟨c, i⟩ <;> rcases y with ⟨d, j⟩ | ⟨d, j⟩ <;> simp only [Sum.elim_inl, Sum.elim_inr] at h1 h2
  · subst h1; rw [Fin.ext h2]
  · omega
  · omega
  · subst h1; rw [Fin.ext (show i.val = j.val by omega)]

def cells : Finset (GSem nD τ sig) := Finset.univ.map ⟨gcell, gcell_inj⟩

/-- Every cell's one duty. -/
def gtok (x : P ⊕ P) : GSem nD τ sig × ℕ × Unit := (gcell x, 0, ())
theorem gtok_inj : Function.Injective gtok := fun x y h => gcell_inj (congrArg Prod.fst h)
def toks : Finset (GSem nD τ sig × ℕ × Unit) := Finset.univ.map ⟨gtok, gtok_inj⟩

/-- Something of every receive cell and of every send cell. -/
def both (Φ : GSem nD τ sig → sProp 𝕄) : sProp 𝕄 :=
  iprop((bigSep Finset.univ fun p : P => Φ (rcell p.1 p.2)) ∗ bigSep Finset.univ fun p : P => Φ (scell p.1 p.2))

instance both_persistent (Φ : GSem nD τ sig → sProp 𝕄) [∀ g, BI.Persistent (Φ g)] : BI.Persistent (both Φ) := by unfold both; infer_instance

omit [FloatOps F] in
theorem cells_both (Φ : GSem nD τ sig → sProp 𝕄) : bigSep cells Φ = both Φ := by
  unfold cells both; rw [BI.bigSep_map, BI.bigSep_univ_sum]; rfl
omit [FloatOps F] in
theorem toks_both : (bigSep toks fun x => (dutyTok ER x.1 x.2.1 x.2.2 : sProp 𝕄)) = both fun g => dutyTok ER g 0 () := by
  unfold toks both; rw [BI.bigSep_map, BI.bigSep_univ_sum]; rfl

/-- The launch's ghost state. -/
def u₀ : UU := (initOf ∅ ∅, (initOf cells toks, (1 : Counters)))

/-- What it gives: every cell at the start of its round, and every duty. -/
def G : sProp 𝕄 :=
  iprop(both (fun g => roundState ER (rd m) g 0) ∗ both (fun g => reached ER g 0) ∗ both (fun g => atPos ER g 0 ∅ 0)
    ∗ both (fun g => dutyTok ER g 0 ()))

omit [FloatOps F] in
theorem hu₀ : (ownU u₀ : sProp 𝕄) ⊢ |={Set.univ}=> G m := by
  unfold u₀
  iintro Hu
  ihave H := (ownU_pair _ _) $$ Hu
  icases H with ⟨-, H⟩
  ihave H := (own_pair_emb _ _ _) $$ H
  icases H with ⟨H, -⟩
  ihave H := (show (BI.own (((Emb.inl : Emb UB (UB × Counters)).trans (embR : Emb (UB × Counters) 𝕄)) (initOf cells toks)) : sProp 𝕄)
    ⊢ BI.own (ER (initOf cells toks)) from BI.Entails.refl _) $$ H
  imod (Rounds.fund ER (rd m) cells toks) $$ H with ⟨Hst, Hr, Hat, Htok⟩
  imodintro
  unfold G
  rw [← cells_both, ← cells_both, ← cells_both, ← toks_both]
  isplitl [Hst]; · iexact Hst
  isplitl [Hr]; · iexact Hr
  isplitl [Hat] <;> iassumption

/-! ## A device's semaphores and buffers -/

/-- The kernel's 57 semaphores: 27 and 27 and 3. -/
def semIx : (Fin 27 ⊕ Fin 27) ⊕ Fin 3 ≃ Fin 57 := (Equiv.sumCongr finSumFinEquiv (Equiv.refl _)).trans finSumFinEquiv

/-- The three local semaphores at zero. -/
def lsems (c : Dev nD) : sProp 𝕄 := iprop(semVal (lcell c 0) 0 ∗ semVal (lcell c 1) 0 ∗ semVal (lcell c 2) 0)

omit [FloatOps F] in
theorem sems_eq (c : Dev nD) : (ownSems0 osem c : sProp 𝕄)
    = iprop(((bigSep Finset.univ fun i => semVal (rcell c i) 0) ∗ (bigSep Finset.univ fun i => semVal (scell c i) 0)) ∗ lsems c) := by
  unfold ownSems0
  rw [BI.bigSep_univ_equiv semIx, BI.bigSep_univ_sum, BI.bigSep_univ_sum, bigSep_univ_eq_bigSepL (I := Fin 3) [0, 1, 2] (by decide) (by decide)]
  rfl

/-- Device `c`'s result and landing buffer, piece by piece at any contents. -/
def outs (c : Dev nD) : sProp 𝕄 := bigSep Finset.univ fun i : Fin 27 => iprop(∃ f, oM.view.loc (c : Thread nD τ) ↦[R i c]{fullShare} f)
def lands (c : Dev nD) : sProp 𝕄 := bigSep Finset.univ fun i : Fin 27 => iprop(∃ f, rM.view.loc (c : Thread nD τ) ↦[R i c]{fullShare} f)

omit [FloatOps F] in
theorem split_all {ℓ : Loc nD τ sig} {q : PosShare TreeShare} {f : Buf (Elt F) ℓ} (K : Fin 27 → Finset (Idx ℓ))
    (hd : ∀ i j, i ≠ j → Disjoint (K i) (K j)) (hc : ∀ j, ∃ i, j ∈ K i) :
    (ℓ ↦{q} f : sProp 𝕄) = bigSep Finset.univ fun i => ℓ ↦[K i]{q} f := by
  classical
  rw [← pointsTo_biUnion Finset.univ K fun i _ j _ h => hd i j h]
  rw [show Finset.univ.biUnion K = Finset.univ from Finset.eq_univ_iff_forall.mpr fun j => by
    obtain ⟨i, hi⟩ := hc j
    exact Finset.mem_biUnion.mpr ⟨i, Finset.mem_univ i, hi⟩]

/-- Every row arrives with a piece. -/
theorem R_all (c : Dev nD) (j : S32768x1024.Idx) : ∃ i, j ∈ R i c := by
  have h : j ∈ Finset.univ.biUnion fun i => R i c := by rw [R_cover c]; exact Finset.mem_univ j
  obtain ⟨i, -, hi⟩ := Finset.mem_biUnion.mp h
  exact ⟨i, hi⟩

omit [FloatOps F] in
theorem out_split (c : Dev nD) (f : Buf (Elt F) (oM.view.loc (c : Thread nD τ))) :
    (oM.view.loc (c : Thread nD τ) ↦{fullShare} f : sProp 𝕄) = bigSep Finset.univ fun i : Fin 27 => oM.view.loc (c : Thread nD τ) ↦[R i c]{fullShare} f :=
  split_all (ℓ := oM.view.loc (c : Thread nD τ)) (fun i => R i c) (fun i j h => R_disjoint h) (R_all c)
omit [FloatOps F] in
theorem land_split (c : Dev nD) (f : Buf (Elt F) (rM.view.loc (c : Thread nD τ))) :
    (rM.view.loc (c : Thread nD τ) ↦{fullShare} f : sProp 𝕄) = bigSep Finset.univ fun i : Fin 27 => rM.view.loc (c : Thread nD τ) ↦[R i c]{fullShare} f :=
  split_all (ℓ := rM.view.loc (c : Thread nD τ)) (fun i => R i c) (fun i j h => R_disjoint h) (R_all c)

omit [FloatOps F] in
theorem some_each {I : Type} [Fintype I] {A : Type} (Φ : I → A → sProp 𝕄) (a : A) :
    (bigSep Finset.univ fun i => Φ i a) ⊢ bigSep Finset.univ fun i => iprop(∃ a, Φ i a) :=
  bigSep_mono fun i _ => (show Φ i a ⊢ iprop(∃ a, Φ i a) from by iintro H; iexists a; iexact H)

omit [FloatOps F] in
theorem bufs (c : Dev nD) :
    (unscopedBufs c (fun b => m ((c : Thread nD τ).loc b)) : sProp 𝕄) ⊢ iprop(xHeld m c ∗ outs c ∗ lands c) := by
  rw [Pipeline.unscopedBufs_split cfgs 0 (fun w => w.elim0) (fun w => w.elim0) c (fun b => m ((c : Thread nD τ).loc b)), unscopedRest0_eq]
  iintro ⟨-, Hx, Ho, Hr⟩
  isplitl [Hx]
  · unfold xHeld X; iexists fullShare; iexact Hx
  isplitl [Ho]
  · ihave H := (Entails.of_eq (out_split c _)) $$ Ho
    unfold outs
    iapply (some_each (fun (i : Fin 27) f => (oM.view.loc (c : Thread nD τ) ↦[R i c]{fullShare} f : sProp 𝕄)) _)
    iexact H
  · ihave H := (Entails.of_eq (land_split c _)) $$ Hr
    unfold lands
    iapply (some_each (fun (i : Fin 27) f => (rM.view.loc (c : Thread nD τ) ↦[R i c]{fullShare} f : sProp 𝕄)) _)
    iexact H

/-! ## Dealing -/

omit [FloatOps F] in
/-- What belongs to a piece at its receiver, dealt to the piece's sender. -/
theorem exchange (Φ : Fin 27 → Dev nD → sProp 𝕄) :
    (bigSep Finset.univ fun c => bigSep Finset.univ fun i => Φ i c) = bigSep Finset.univ fun c => bigSep Finset.univ fun i => Φ i (peer i c) := by
  rw [BI.bigSep_univ_comm, BI.bigSep_univ_comm (fun c i => Φ i (peer i c))]
  exact bigSep_congr fun i _ => BI.bigSep_univ_equiv (swap i) (Φ i)

/-- What a device starts from, the lasting facts apart. -/
def lin (c : Dev nD) : sProp 𝕄 :=
  iprop(xHeld m c ∗ (bigSep Finset.univ fun i => toSend c i) ∗ (bigSep Finset.univ fun i => atPos ER (rcell c i) 0 ∅ 0) ∗ outs c ∗ lsems c)

/-- What a device starts from. -/
def G' (c : Dev nD) : sProp 𝕄 := iprop(∃ κ, recs m κ ∗ lin m c)

omit [FloatOps F] in
theorem with_persistent {I : Type} [DecidableEq I] {S : Finset I} {Q : sProp 𝕄} [BI.Persistent Q] {Φ Ψ : I → sProp 𝕄}
    (h : ∀ i ∈ S, iprop(Q ∗ Φ i) ⊢ Ψ i) : iprop(Q ∗ bigSep S Φ) ⊢ bigSep S Ψ :=
  (sep_mono_left (BI.bigSep_of_persistent S Q)).trans (by rw [← bigSep_sep']; exact bigSep_mono h)

omit [FloatOps F] in
/-- Cells at zero and at the start of their rounds become cells with invariants. -/
theorem alloc (f : P → GSem nD τ sig) :
    iprop((bigSep Finset.univ fun p => semVal (f p) 0) ∗ bigSep Finset.univ fun p => roundState ER (rd m) (f p) 0)
      ⊢ (|={Set.univ}=> ∃ K : P → ℕ, bigSep Finset.univ fun p => cellInv ER (rd m) (K p) (f p) : sProp 𝕄) := by
  rw [← bigSep_sep']
  exact ((bigSep_mono fun p _ => (Rounds.body_intro ER (rd m) (f p)).trans inv_alloc).trans (bigSep_fupd _ _)).trans
    (BI.fupd_mono (BI.bigSep_exists_pi Finset.univ fun p (κ : ℕ) => (cellInv ER (rd m) κ (f p) : sProp 𝕄)))

/-- One naming of the cells from a naming of the receive cells and one of the send cells. -/
def names (K K' : P → ℕ) (g : GSem nD τ sig) : ℕ :=
  if ixOf g.2 < 27 then K (g.1.1, ⟨ixOf g.2 % 27, Nat.mod_lt _ (by decide)⟩) else K' (g.1.1, ⟨ixOf g.2 % 27, Nat.mod_lt _ (by decide)⟩)

theorem names_r (K K' : P → ℕ) (c : Dev nD) (i : Fin 27) : names K K' (rcell c i) = K (c, i) := by
  unfold names
  rw [if_pos (by rw [ixOf_r]; exact i.isLt)]
  exact congrArg K (Prod.ext rfl (Fin.ext (Nat.mod_eq_of_lt i.isLt)))
theorem names_s (K K' : P → ℕ) (c : Dev nD) (i : Fin 27) : names K K' (scell c i) = K' (c, i) := by
  unfold names
  rw [if_neg (by rw [ixOf_s]; omega)]
  exact congrArg K' (Prod.ext rfl (Fin.ext (by show (27 + i.val) % 27 = i.val; omega)))

omit [FloatOps F] in
theorem recs_intro (K K' : P → ℕ) :
    iprop((bigSep Finset.univ fun p : P => cellInv ER (rd m) (K p) (rcell p.1 p.2)) ∗ (bigSep Finset.univ fun p : P => cellInv ER (rd m) (K' p) (scell p.1 p.2))
      ∗ both (fun g => reached ER g 0)) ⊢ recs m (names K K') := by
  unfold recs both
  simp only [bigSep_sep', names_r, names_s, Prod.mk.eta]
  iintro ⟨H1, H2, H3, H4⟩
  isplitl [H1 H3]
  · isplitl [H1] <;> iassumption
  · isplitl [H2] <;> iassumption

omit [FloatOps F] in
theorem by_device (Φ : Dev nD → Fin 27 → sProp 𝕄) :
    (bigSep Finset.univ fun p : P => Φ p.1 p.2) = bigSep Finset.univ fun c => bigSep Finset.univ fun i => Φ c i :=
  BI.bigSep_univ_prod _

omit [FloatOps F] in
theorem deal :
    iprop((bigSep Finset.univ fun c : Dev nD => xHeld m c) ∗ (bigSep Finset.univ fun c : Dev nD => outs c) ∗ (bigSep Finset.univ fun c : Dev nD => lands c)
        ∗ (bigSep Finset.univ fun c : Dev nD => lsems c) ∗ both (fun g => atPos ER g 0 ∅ 0) ∗ both (fun g => dutyTok ER g 0 ()))
      ⊢ (bigSep Finset.univ fun c : Dev nD => lin m c : sProp 𝕄) := by
  unfold lin both toSend lands
  simp only [bigSep_sep']
  rw [by_device fun c i => atPos ER (rcell c i) 0 ∅ 0, by_device fun c i => atPos ER (scell c i) 0 ∅ 0,
    by_device fun c i => dutyTok ER (rcell c i) 0 (), by_device fun c i => dutyTok ER (scell c i) 0 (),
    exchange fun i c => dutyTok ER (rcell c i) 0 (), exchange fun i c => iprop(∃ f, rM.view.loc (c : Thread nD τ) ↦[R i c]{fullShare} f)]
  iintro ⟨Hx, Ho, Hl, Hs, ⟨Har, Has⟩, ⟨Htr, Hts⟩⟩
  isplitl [Hx]; · iexact Hx
  isplitl [Hts Htr Has Hl]
  · isplitl [Hts]; · iexact Hts
    isplitl [Htr]; · iexact Htr
    isplitl [Has] <;> iassumption
  isplitl [Har]; · iexact Har
  isplitl [Ho] <;> iassumption

omit [FloatOps F] in
/-- From the zero semaphores and the memory of all devices and the launch's ghost state, what each device starts from. -/
theorem glob :
    iprop((bigSep Finset.univ fun c : Dev nD => iprop(ownSems0 osem c ∗ unscopedBufs c (fun b => m ((c : Thread nD τ).loc b)))) ∗ G m)
      ⊢ (|={Set.univ}=> bigSep Finset.univ (G' m) : sProp 𝕄) := by
  have hdev : (bigSep Finset.univ fun c : Dev nD => iprop(ownSems0 osem c ∗ unscopedBufs c (fun b => m ((c : Thread nD τ).loc b))))
      ⊢ (iprop((((bigSep Finset.univ fun p : P => semVal (rcell p.1 p.2) 0) ∗ (bigSep Finset.univ fun p : P => semVal (scell p.1 p.2) 0))
          ∗ bigSep Finset.univ fun c : Dev nD => lsems c)
        ∗ (bigSep Finset.univ fun c : Dev nD => xHeld m c) ∗ (bigSep Finset.univ fun c : Dev nD => outs c) ∗ (bigSep Finset.univ fun c : Dev nD => lands c)) : sProp 𝕄) := by
    refine (bigSep_mono fun c _ => (sep_mono_left (Entails.of_eq (sems_eq c))).trans (sep_mono_right (bufs m c))).trans ?_
    rw [by_device fun c i => semVal (rcell c i) 0, by_device fun c i => semVal (scell c i) 0]
    simp only [← bigSep_sep']
    exact bigSep_mono fun c _ => BI.Entails.refl _
  iintro ⟨Hdev, HG⟩
  ihave H := hdev $$ Hdev
  icases H with ⟨⟨⟨Hzr, Hzs⟩, Hl⟩, Hx, Ho, Hla⟩
  unfold G
  icases HG with ⟨Hst, #Hr, Hat, Htok⟩
  ihave Hst := (Entails.of_eq (show both (fun g => roundState ER (rd m) g 0) = iprop((bigSep Finset.univ fun p : P => roundState ER (rd m) (rcell p.1 p.2) 0)
    ∗ bigSep Finset.univ fun p : P => roundState ER (rd m) (scell p.1 p.2) 0) from rfl)) $$ Hst
  icases Hst with ⟨Hstr, Hsts⟩
  imod (alloc m fun p => rcell p.1 p.2) $$ [Hzr Hstr] with ⟨%K, #HK⟩
  · isplitl [Hzr] <;> iassumption
  imod (alloc m fun p => scell p.1 p.2) $$ [Hzs Hsts] with ⟨%K', #HK'⟩
  · isplitl [Hzs] <;> iassumption
  imodintro
  iapply (with_persistent (Q := recs m (names K K')) (Φ := lin m) fun c _ => (show iprop(recs m (names K K') ∗ lin m c) ⊢ G' m c from by
    unfold G'; iintro H; iexists _; iexact H))
  isplitr
  · iapply (recs_intro m K K')
    isplitr; · iexact HK
    isplitr; · iexact HK'
    iexact Hr
  · iapply (deal m)
    isplitl [Hx]; · iexact Hx
    isplitl [Ho]; · iexact Ho
    isplitl [Hla]; · iexact Hla
    isplitl [Hl]; · iexact Hl
    isplitl [Hat] <;> iassumption

/-! ## The credit a device starts with -/

omit [FloatOps F] in
theorem creds (c : Dev nD) : (launchCred (owed 0) c : sProp 𝕄) ⊢ bigSep Finset.univ fun i => cred (tallyAt (rcell c i) () (N i)) := by
  rw [show (owed 0 : Dev nD → CellTallies nD τ sig Unit) = fun d => ∑ i ∈ (Finset.univ : Finset (Fin 27)), tallyAt (rcell (peer i d) i) () (N i) from
    funext fun d => by unfold owed; rw [Finset.filter_true_of_mem fun i _ => Nat.zero_le _],
    Pipeline.launchCred_sum Finset.univ (fun (i : Fin 27) d => tallyAt (rcell (peer i d) i) () (N i)) c]
  exact bigSep_mono fun i _ => Pipeline.launchCred_tallyAt (.dma (rS i)) (peer i) (peer i) (peer_peer i) (peer_peer i) () (N i) c

end Cert.Proof
-- ==== Proof.Steps.lean ====
/-
  The sends from the input and from what landed, and the addition of a landed piece into the result, as steps from one state of
  the device to the next.
-/
module

public import proofs.«01_k».proof.Proof.State

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The elements of a slice -/

section Slices
variable {off size : Fin 2 → ℕ} {b : ℕ} {i : Fin 27} {inb : ∀ a, off a + size a ≤ S32768x1024.size a}

theorem x_set (hsz : size = ![256 * nb i, 1024]) (ho : off = ![256 * b, 0]) :
    (xM.slice (Rect.unit (s := S32768x1024) off size inb) (fun _ => rfl)).view.set = rows b (nb i) :=
  (View.set_slice_whole main_arg0 _).trans (rect_set ho hsz inb)

theorem r_set (hsz : size = ![256 * nb i, 1024]) (ho : off = ![256 * b, 0]) :
    (rM.slice (Rect.unit (s := S32768x1024) off size inb) (fun _ => rfl)).view.set = rows b (nb i) :=
  (View.set_slice_whole main_v1_1 _).trans (rect_set ho hsz inb)

theorem o_set (hsz : size = ![256 * nb i, 1024]) (ho : off = ![256 * b, 0]) :
    (oM.slice (Rect.unit (s := S32768x1024) off size inb) (fun _ => rfl)).view.set = rows b (nb i) :=
  (View.set_slice_whole main_v1_0 _).trans (rect_set ho hsz inb)

theorem r_mem (hsz : size = ![256 * nb i, 1024]) (ho : off = ![256 * b, 0]) (x : (Rect.unit (s := S32768x1024) off size inb).shape.Idx) :
    (rM.slice (Rect.unit (s := S32768x1024) off size inb) (fun _ => rfl)).view.emb x ∈ rows b (nb i) := by
  rw [← r_set (inb := inb) hsz ho]; exact Finset.mem_map_of_mem _ (Finset.mem_univ x)

end Slices

/-! ## Sending -/

section Send
variable (κ : GSem nD τ sig → ℕ) {c d : Dev nD} {n t w : ℕ} (i : Fin 27) {α : Type}
    {size off : Fin 2 → ℕ} {ss rs : DmaSem sig} {inb inb' : ∀ a, off a + size a ≤ S32768x1024.size a}
    {hsc : (rM.slice (Rect.unit (s := S32768x1024) off size inb) (fun _ => rfl) : Memref sig (Dev.tc d : Thread nD τ).2.kind .hbm ⟨2, size⟩ .f32).view.ref.isScScratch = false}
    {hdst : (rM.slice (Rect.unit (s := S32768x1024) off size inb) (fun _ => rfl)).view.WordExact}
    {hsem : DmaTarget.Typed .hbm (.dma rs) (.remote (Dev.tc d : Thread nD τ)
      (rM.slice (Rect.unit (s := S32768x1024) off size inb) (fun _ => rfl) : Memref sig (Dev.tc d : Thread nD τ).2.kind .hbm ⟨2, size⟩ .f32) (.dma ss) hsc)}
    {k : PUnit → Prog (TpuEff nD τ sig (Elt F) Λ₀ .tc) α}

omit [FloatOps F] in
theorem sendSide_out (hn : n = i.val) : (sendSide n w c i : sProp 𝕄) = toSend c i := by
  unfold sendSide; rw [if_pos (by omega)]
omit [FloatOps F] in
theorem sendSide_in (hn : n = i.val) (hw : w ≤ wpos i) :
    (sendSide (n + 1) w c i : sProp 𝕄) = iprop(cred (tallyAt (scell c i) () (N i)) ∗ atPos ER (scell c i) 0 ∅ 0) := by
  unfold sendSide; rw [if_neg (by omega), if_pos hw]

/-- The send of a piece that starts here. -/
theorem step_send_x {Q : α → sProp 𝕄} {hsrc : (xM.slice (Rect.unit (s := S32768x1024) off size inb') (fun _ => rfl)).view.WordExact}
    (hi : i.val < 9) (hn : n = i.val) (hw : w ≤ wpos i)
    (hd : d = peer i c) (hss : ss = sS i) (hrs : rs = rS i) (hsz : size = ![256 * nb i, 1024]) (ho : off = ![256 * sb i c, 0])
    (hk : St m κ c (n + 1) t w ⊢ run c (k ⟨⟩) Q) :
    St m κ c n t w ⊢ run c (.op (.enqueueDma (xM.slice (Rect.unit (s := S32768x1024) off size inb') (fun _ => rfl))
      (.remote (Dev.tc d : Thread nD τ) (rM.slice (Rect.unit (s := S32768x1024) off size inb) (fun _ => rfl)) (.dma ss) hsc)
      (.dma rs) hsrc hdst hsem) k) Q := by
  have hset := x_set (inb := inb') hsz ho
  unfold St
  iintro ⟨#Hrec, #Hlev, ⟨%W, HO⟩, Hx, HS, HR, Hout, Hscr⟩
  ihave HS := (bigSep_step (Ψ := sendSide (n + 1) w c) i (by subst hn; exact sendSide_send)) $$ HS
  icases HS with ⟨Hi, HS⟩
  ihave Hi := (Entails.of_eq (sendSide_out i hn)) $$ Hi
  unfold xHeld
  icases Hx with ⟨%q, Hx⟩
  ihave Hx := (share_sub q (Finset.subset_univ (rows (sb i c) (nb i)))) $$ Hx
  icases Hx with ⟨Hx, %q', Hs⟩
  iapply (send_core m κ i (c := c) (size := size) (sM := xM.slice (Rect.unit (s := S32768x1024) off size inb') (fun _ => rfl)) (fs := X m c) (q := q')
    (W := W) hd hss hrs hsz ho (fun x => by
      have := src_eq m (c := c) (i := i) (by rw [R, rb_peer]; exact r_mem (inb := inb) hsz ho x)
      refine this.symm.trans ?_
      rw [srcOf, if_pos hi]; rfl)) $$ [Hi HO Hs]
  · isplitr; · iexact Hrec
    isplitl [Hi]; · iexact Hi
    isplitl [HO]; · rw [hn]; iexact HO
    rw [hset]; iexact Hs
  iintro ⟨Hi, HO⟩
  ihave HS := HS $$ [Hi]
  · rw [sendSide_in i hn hw]; iexact Hi
  iapply hk
  unfold St xHeld
  isplitr; · iexact Hrec
  isplitr; · iexact Hlev
  isplitl [HO]; · iexists _; rw [hn]; iexact HO
  isplitl [Hx]; · iexact Hx
  isplitl [HS]; · iexact HS
  isplitl [HR]; · iexact HR
  isplitl [Hout]; · iexact Hout
  iexact Hscr

/-- The send of a piece that passes on what landed. -/
theorem step_send_r {Q : α → sProp 𝕄} {hsrc : (rM.slice (Rect.unit (s := S32768x1024) off size inb') (fun _ => rfl)).view.WordExact}
    (hi : 9 ≤ i.val) (hn : n = i.val) (hw : w ≤ wpos i) (ht : 2 * posn (par i) < t)
    (hd : d = peer i c) (hss : ss = sS i) (hrs : rs = rS i) (hsz : size = ![256 * nb i, 1024]) (ho : off = ![256 * sb i c, 0])
    (hk : St m κ c (n + 1) t w ⊢ run c (k ⟨⟩) Q) :
    St m κ c n t w ⊢ run c (.op (.enqueueDma (rM.slice (Rect.unit (s := S32768x1024) off size inb') (fun _ => rfl))
      (.remote (Dev.tc d : Thread nD τ) (rM.slice (Rect.unit (s := S32768x1024) off size inb) (fun _ => rfl)) (.dma ss) hsc)
      (.dma rs) hsrc hdst hsem) k) Q := by
  have hset := r_set (inb := inb') hsz ho
  have hR : recvSide m t c (par i) = iprop(semVal (rcell c (par i)) 0 ∗ ∃ q, rM.view.loc (c : Thread nD τ) ↦[R (par i) c]{q} V m c) := by
    unfold recvSide; rw [if_neg (by omega)]
  unfold St
  iintro ⟨#Hrec, #Hlev, ⟨%W, HO⟩, Hx, HS, HR, Hout, Hscr⟩
  ihave HS := (bigSep_step (Ψ := sendSide (n + 1) w c) i (by subst hn; exact sendSide_send)) $$ HS
  icases HS with ⟨Hi, HS⟩
  ihave Hi := (Entails.of_eq (sendSide_out i hn)) $$ Hi
  ihave HR := (bigSep_step (Ψ := recvSide m t c) (par i) (fun _ _ => rfl)) $$ HR
  icases HR with ⟨Hp, HR⟩
  ihave Hp := (Entails.of_eq hR) $$ Hp
  icases Hp with ⟨Hz, %q, Hp⟩
  ihave Hp := (share_sub q (rows_sub (par_sub i c hi).1 (par_sub i c hi).2)) $$ Hp
  icases Hp with ⟨Hp, %q', Hs⟩
  ihave HR := HR $$ [Hz Hp]
  · rw [hR]
    isplitl [Hz]; · iexact Hz
    iexact Hp
  iapply (send_core m κ i (c := c) (size := size) (sM := rM.slice (Rect.unit (s := S32768x1024) off size inb') (fun _ => rfl)) (fs := V m c) (q := q')
    (W := W) hd hss hrs hsz ho (fun x => by
      have := src_eq m (c := c) (i := i) (by rw [R, rb_peer]; exact r_mem (inb := inb) hsz ho x)
      refine this.symm.trans ?_
      rw [srcOf, if_neg (by omega)]; rfl)) $$ [Hi HO Hs]
  · isplitr; · iexact Hrec
    isplitl [Hi]; · iexact Hi
    isplitl [HO]; · rw [hn]; iexact HO
    rw [hset]; iexact Hs
  iintro ⟨Hi, HO⟩
  ihave HS := HS $$ [Hi]
  · rw [sendSide_in i hn hw]; iexact Hi
  iapply hk
  unfold St
  isplitr; · iexact Hrec
  isplitr; · iexact Hlev
  isplitl [HO]; · iexists _; rw [hn]; iexact HO
  isplitl [Hx]; · iexact Hx
  isplitl [HS]; · iexact HS
  isplitl [HR]; · iexact HR
  isplitl [Hout]; · iexact Hout
  iexact Hscr

end Send

/-! ## Adding a landed piece -/

/-- Rows of an array in high-bandwidth memory, and the front rows of a scratch buffer, as the body slices them. -/
abbrev hs (M : Memref sig .tc .hbm S32768x1024 .f32) (off size : Fin 2 → ℕ) (inb : ∀ a, off a + size a ≤ S32768x1024.size a) :
    Memref sig .tc .hbm ⟨2, size⟩ .f32 := M.slice (Rect.unit (s := S32768x1024) off size inb) (fun _ => rfl)
abbrev vr (size : Fin 2 → ℕ) (vinb : ∀ a, (![0, 0] : Fin 2 → ℕ) a + size a ≤ S3072x1024.size a) : Rect S3072x1024 :=
  Rect.unit (s := S3072x1024) ![0, 0] size vinb
abbrev vs (M : Memref sig .tc .vmem S3072x1024 .f32) (size : Fin 2 → ℕ) (vinb : ∀ a, (![0, 0] : Fin 2 → ℕ) a + size a ≤ S3072x1024.size a) :
    Memref sig .tc .vmem ⟨2, size⟩ .f32 := M.slice (vr size vinb) (fun _ => rfl)

section Chunk
variable (κ : GSem nD τ sig → ℕ) {c : Dev nD} {n t w : ℕ} (i : Fin 27) {α : Type}
    {size off : Fin 2 → ℕ} {l0 l1 l2 l0' l1' l2' : DmaSem sig} {inb : ∀ a, off a + size a ≤ S32768x1024.size a}
    {vinb : ∀ a, (![0, 0] : Fin 2 → ℕ) a + size a ≤ S3072x1024.size a}

/-- A transfer of a piece credits something. -/
theorem credit_pos {sp : Space} (v : View sig .tc sp ⟨2, size⟩ .f32) (hsz : size = ![256 * nb i, 1024]) : 0 < v.dmaCredit := by
  subst hsz; exact sig.dmaCredit_pos _ _ _ _ _ (Sh_numel_pos i)

/-- The addition of piece `i`: the device's own rows and the landed ones to the scratch buffers, their sum to a third, and back. -/
theorem step_add {Q : α → sProp 𝕄}
    {hx : (hs xM off size inb).view.WordExact} {hr : (hs rM off size inb).view.WordExact} {ho' : (hs oM off size inb).view.WordExact}
    {hvx : (vs vxM size vinb).view.WordExact} {hvr : (vs vrM size vinb).view.WordExact} {hvo : (vs voM size vinb).view.WordExact}
    {h0 : DmaTarget.Typed (nD := nD) (p := (Proc.tc : Proc τ)) .hbm (.dma l0) (.here (vs vxM size vinb))}
    {h1 : DmaTarget.Typed (nD := nD) (p := (Proc.tc : Proc τ)) .hbm (.dma l1) (.here (vs vrM size vinb))}
    {h2 : DmaTarget.Typed (nD := nD) (p := (Proc.tc : Proc τ)) .vmem (.dma l2) (.here (hs oM off size inb))}
    {hlx : vxM.view.LoadsAt (vr size vinb).toLoadRect} {hlr : vrM.view.LoadsAt (vr size vinb).toLoadRect}
    {hlo : voM.view.LoadsAt (vr size vinb).toLoadRect} {hst : (voM.access (vr size vinb)).Stores Finset.univ}
    {pay : ((⟨2, size⟩ : Shape).Idx → Elt F .f32) → ((⟨2, size⟩ : Shape).Idx → Elt F .f32) → (⟨2, size⟩ : Shape).Idx → Elt F .f32}
    {k : PUnit → Prog (TpuEff nD τ sig (Elt F) Λ₀ .tc) α}
    (ht : t = 2 * posn i + 1) (hsz : size = ![256 * nb i, 1024]) (ho : off = ![256 * rb i c, 0])
    (hl0 : l0 = lS 0) (hl1 : l1 = lS 1) (hl2 : l2 = lS 2) (hl0' : l0' = lS 0) (hl1' : l1' = lS 1) (hl2' : l2' = lS 2)
    (hpay : ∀ v u j, pay v u j = FloatOps.addf (v j : F .f32) (u j))
    (hk : St m κ c n (t + 1) w ⊢ run c (k ⟨⟩) Q) :
    St m κ c n t w ⊢ run c
      (.op (.enqueueDma (hs xM off size inb) (.here (vs vxM size vinb)) (.dma l0) hx hvx h0) fun _ =>
       .op (.enqueueDma (hs rM off size inb) (.here (vs vrM size vinb)) (.dma l1) hr hvr h1) fun _ =>
       .op (.waitDma2 l0' (hs xM off size inb) (vs vxM size vinb) hx hvx) fun _ =>
       .op (.waitDma2 l1' (hs rM off size inb) (vs vrM size vinb) hr hvr) fun _ =>
       .op (.load vxM (vr size vinb).toLoadRect hlx) fun v =>
       .op (.load vrM (vr size vinb).toLoadRect hlr) fun u =>
       .op (.load voM (vr size vinb).toLoadRect hlo) fun _ =>
       .op (.store voM (vr size vinb) (pay v u) Finset.univ hst (.inl rfl)) fun _ =>
       .op (.enqueueDma (vs voM size vinb) (.here (hs oM off size inb)) (.dma l2) hvo ho' h2) fun _ =>
       .op (.waitDma2 l2' (vs voM size vinb) (hs oM off size inb) hvo ho') k) Q := by
  subst hl0 hl1 hl2 hl0' hl1' hl2'
  have hxs := x_set (inb := inb) hsz ho
  have hrs := r_set (inb := inb) hsz ho
  have hos := o_set (inb := inb) hsz ho
  have hR : recvSide m t c i = iprop(semVal (rcell c i) 0 ∗ ∃ q, rM.view.loc (c : Thread nD τ) ↦[R i c]{q} V m c) := by
    unfold recvSide; rw [if_neg (by omega)]
  have hO : outSide m t c i = iprop(∃ f, oM.view.loc (c : Thread nD τ) ↦[R i c]{fullShare} f) := by
    unfold outSide; rw [if_pos (by omega)]
  have hO' : outSide m (t + 1) c i = (oM.view.loc (c : Thread nD τ) ↦[R i c]{fullShare} Vout m c) := by
    unfold outSide; rw [if_neg (by omega)]
  unfold St scr
  iintro ⟨#Hrec, #Hlev, ⟨%W, HO⟩, Hx, HS, HR, Hout, ⟨%fx, Hvx⟩, ⟨%fr, Hvr⟩, ⟨%fo, Hvo⟩, Hz0, Hz1, Hz2⟩
  ihave Hout := (bigSep_step (Ψ := outSide m (t + 1) c) i (outSide_step m ht)) $$ Hout
  icases Hout with ⟨Ho, Hout⟩
  ihave Ho := (Entails.of_eq hO) $$ Ho
  icases Ho with ⟨%fout, Ho⟩
  ihave HR := (bigSep_step (Ψ := recvSide m t c) i (fun _ _ => rfl)) $$ HR
  icases HR with ⟨Hp, HR⟩
  ihave Hp := (Entails.of_eq hR) $$ Hp
  icases Hp with ⟨Hz, %q, Hp⟩
  ihave Hp := (share_sub q (Finset.Subset.refl (R i c))) $$ Hp
  icases Hp with ⟨Hp, %q', Hr⟩
  ihave HR := HR $$ [Hz Hp]
  · rw [hR]
    isplitl [Hz]; · iexact Hz
    iexact Hp
  unfold xHeld
  icases Hx with ⟨%qx, Hx⟩
  ihave Hx := (share_sub qx (Finset.subset_univ (R i c))) $$ Hx
  icases Hx with ⟨Hx, %qx', Hs⟩
  iapply (wp_dmaLocal EC 𝒱₀ (c : Thread nD τ) none (src := hs xM off size inb) (dst := vs vxM size vinb) (via := .same) (sm := .dma (lS 0))
    (fs := X m c) (fd := fx) (q := qx') (Sd := Finset.univ) () (vs vxM size vinb).view.dmaCredit rfl (credit_pos i _ hsz) (Finset.subset_univ _)) $$ [Hs Hvx Hz0]
  · isplitl [Hs]; · rw [hxs]; iexact Hs
    isplitl [Hvx] <;> iassumption
  iintro HF0
  iapply (wp_dmaLocal EC 𝒱₀ (c : Thread nD τ) none (src := hs rM off size inb) (dst := vs vrM size vinb) (via := .same) (sm := .dma (lS 1))
    (fs := V m c) (fd := fr) (q := q') (Sd := Finset.univ) () (vs vrM size vinb).view.dmaCredit rfl (credit_pos i _ hsz) (Finset.subset_univ _)) $$ [Hr Hvr Hz1]
  · isplitl [Hr]; · rw [hrs]; iexact Hr
    isplitl [Hvr] <;> iassumption
  iintro HF1
  iapply (wp_waitLocalO EC 𝒱₀ (c : Thread nD τ) none () rfl) $$ [HF0 HO]
  · isplitl [HF0]; · iexact HF0
    isplitl [HO]; · iexact HO
    iapply (mayWait_other c _ n (by rw [ixOf_l]; omega)); iexact Hlev
  iintro ⟨⟨Hvx, -⟩, Hz0, HO⟩
  iapply (wp_waitLocalO EC 𝒱₀ (c : Thread nD τ) none () rfl) $$ [HF1 HO]
  · isplitl [HF1]; · iexact HF1
    isplitl [HO]; · iexact HO
    iapply (mayWait_other c _ n (by rw [ixOf_l]; omega)); iexact Hlev
  iintro ⟨⟨Hvr, -⟩, Hz1, HO⟩
  iapply (wp_load 𝒱₀ (c : Thread nD τ) none Set.univ (m := vxM) (Finset.subset_univ _)) $$ Hvx
  iintro Hvx
  iapply (wp_load 𝒱₀ (c : Thread nD τ) none Set.univ (m := vrM) (Finset.subset_univ _)) $$ Hvr
  iintro Hvr
  iapply (wp_load 𝒱₀ (c : Thread nD τ) none Set.univ (m := voM) (Finset.subset_univ _)) $$ Hvo
  iintro Hvo
  iapply (wp_store 𝒱₀ (c : Thread nD τ) none Set.univ (m := voM) (r := vr size vinb) (Mk := Finset.univ) (Finset.subset_univ _)) $$ Hvo
  iintro Hvo
  ihave Hvo := ((pointsTo_split_subset (ℓ := voM.view.loc (c : Thread nD τ)) (I := (vs voM size vinb).view.set) (S := Finset.univ) (Finset.subset_univ _)).1) $$ Hvo
  icases Hvo with ⟨Hvo, Hvo'⟩
  iapply (wp_dmaLocal EC 𝒱₀ (c : Thread nD τ) none (src := vs voM size vinb) (dst := hs oM off size inb) (via := .same) (sm := .dma (lS 2))
    (fd := fout) (q := fullShare) (Sd := R i c) () (hs oM off size inb).view.dmaCredit rfl (credit_pos i _ hsz)
    (by rw [hos])) $$ [Hvo Ho Hz2]
  · isplitl [Hvo]; · iexact Hvo
    isplitl [Ho] <;> iassumption
  iintro HF2
  iapply (wp_waitLocalO EC 𝒱₀ (c : Thread nD τ) none () rfl) $$ [HF2 HO]
  · isplitl [HF2]; · iexact HF2
    isplitl [HO]; · iexact HO
    iapply (mayWait_other c _ n (by rw [ixOf_l]; omega)); iexact Hlev
  iintro ⟨⟨Ho, Hvo⟩, Hz2, HO⟩
  ihave Hvo := ((pointsTo_split_subset (ℓ := voM.view.loc (c : Thread nD τ)) (I := (vs voM size vinb).view.set) (S := Finset.univ) (Finset.subset_univ _)).2) $$ [Hvo Hvo']
  · isplitl [Hvo] <;> iassumption
  ihave Ho := (Entails.of_eq (pointsTo_congr (g := Vout m c) (by
    refine fun j hj => copy_at (hs oM off size inb).view fout _ (Vout m c) (fun x => ?_) j (by rw [hos]; exact hj)
    rw [show ∀ f w, (vs voM size vinb).view.read (Elt F) ((voM.access (vr size vinb)).write (Elt F) f w Finset.univ) = w from
        fun f w => View.read_write_univ (v := (vs voM size vinb).view) f w,
      show ∀ f w, vxM.view.readAt (Elt F) (vr size vinb).toLoadRect ((vs vxM size vinb).view.write (Elt F) f w Finset.univ) = w from
        fun f w => View.read_write_univ (v := (vs vxM size vinb).view) f w,
      show ∀ f w, vrM.view.readAt (Elt F) (vr size vinb).toLoadRect ((vs vrM size vinb).view.write (Elt F) f w Finset.univ) = w from
        fun f w => View.read_write_univ (v := (vs vrM size vinb).view) f w]
    exact (hpay ((hs xM off size inb).view.read (Elt F) (X m c)) ((hs rM off size inb).view.read (Elt F) (V m c)) x).symm))) $$ Ho
  ihave Hout := Hout $$ [Ho]
  · rw [hO']; iexact Ho
  iapply hk
  unfold St scr xHeld
  isplitr; · iexact Hrec
  isplitr; · iexact Hlev
  isplitl [HO]; · iexists _; iexact HO
  isplitl [Hx]; · iexact Hx
  isplitl [HS]; · iexact HS
  isplitl [HR]; · rw [← recvSide_add m ht]; iexact HR
  isplitl [Hout]; · iexact Hout
  isplitl [Hvx]; · iexists _; iexact Hvx
  isplitl [Hvr]; · iexists _; iexact Hvr
  isplitl [Hvo]; · iexists _; iexact Hvo
  isplitl [Hz0]; · iexact Hz0
  isplitl [Hz1] <;> iassumption

end Chunk

end Cert.Proof
-- ==== Proof.Body.lean ====
/-
  The body of a device, effect by effect: 27 sends, 27 arrivals each with its addition, 27 departures.
-/
module

public import proofs.«01_k».proof.Proof.Steps
public import proofs.«01_k».proof.Proof.Gen.KernelIdeal.Points
public import Idealize.ShloMosaic.Lib.Pipeline.Value

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- The device's own number. -/
theorem step_dev {c : Dev nD} {P : sProp 𝕄} {α : Type} {Q : α → sProp 𝕄} {k : Dev nD → Prog (TpuEff nD τ sig (Elt F) Λ₀ .tc) α}
    (h : P ⊢ run c (k c) Q) : P ⊢ run c (.op .deviceId k) Q :=
  h.trans (Entails.of_eq (wp_deviceId 𝒱₀ (c : Thread nD τ) none Set.univ).symm)

/-- The sum of two vectors, reshaped to the shape it has. -/
theorem pay {s : Shape} {h : s.ShapeCasts s} (v u : s.Idx → Elt F .f32) (j : s.Idx) :
    shapeCast s (addf (φ := .f32) v u) h j = FloatOps.addf (v j : F .f32) (u j) := congrFun (shapeCast_self _ _) j

set_option maxHeartbeats 4000000 in
/-- The body of device `c`. -/
theorem body (κ : GSem nD τ sig → ℕ) (c : Dev nD) :
    St m κ c 0 0 0 ⊢ run c (bodyAt0 (F := F) t0_0) (fun _ => St m κ c 27 54 27) := by
  unfold bodyAt0
  refine step_dev ?_
  refine step_send_x m κ 0 (by decide) rfl (by decide) (by clear * -; revert c; decide +kernel) rfl rfl rfl (by clear * -; revert c; decide +kernel) ?_
  refine step_send_x m κ 1 (by decide) rfl (by decide) (by clear * -; revert c; decide +kernel) rfl rfl rfl (by clear * -; revert c; decide +kernel) ?_
  refine step_send_x m κ 2 (by decide) rfl (by decide) (by clear * -; revert c; decide +kernel) rfl rfl rfl (by clear * -; revert c; decide +kernel) ?_
  refine step_send_x m κ 3 (by decide) rfl (by decide) (by clear * -; revert c; decide +kernel) rfl rfl rfl (by clear * -; revert c; decide +kernel) ?_
  refine step_send_x m κ 4 (by decide) rfl (by decide) (by clear * -; revert c; decide +kernel) rfl rfl rfl (by clear * -; revert c; decide +kernel) ?_
  refine step_send_x m κ 5 (by decide) rfl (by decide) (by clear * -; revert c; decide +kernel) rfl rfl rfl (by clear * -; revert c; decide +kernel) ?_
  refine step_send_x m κ 6 (by decide) rfl (by decide) (by clear * -; revert c; decide +kernel) rfl rfl rfl (by clear * -; revert c; decide +kernel) ?_
  refine step_send_x m κ 7 (by decide) rfl (by decide) (by clear * -; revert c; decide +kernel) rfl rfl rfl (by clear * -; revert c; decide +kernel) ?_
  refine step_send_x m κ 8 (by decide) rfl (by decide) (by clear * -; revert c; decide +kernel) rfl rfl rfl (by clear * -; revert c; decide +kernel) ?_
  refine step_recv m κ 0 rfl rfl rfl (by decide) ?_
  refine step_send_r m κ 9 (by decide) rfl (by decide) (by decide) (by clear * -; revert c; decide +kernel) rfl rfl rfl (by clear * -; revert c; decide +kernel) ?_
  refine step_send_r m κ 10 (by decide) rfl (by decide) (by decide) (by clear * -; revert c; decide +kernel) rfl rfl rfl (by clear * -; revert c; decide +kernel) ?_
  refine step_add m κ 0 rfl rfl (by clear * -; revert c; decide +kernel) rfl rfl rfl rfl rfl rfl pay ?_
  refine step_recv m κ 1 rfl rfl rfl (by decide) ?_
  refine step_send_r m κ 11 (by decide) rfl (by decide) (by decide) (by clear * -; revert c; decide +kernel) rfl rfl rfl (by clear * -; revert c; decide +kernel) ?_
  refine step_send_r m κ 12 (by decide) rfl (by decide) (by decide) (by clear * -; revert c; decide +kernel) rfl rfl rfl (by clear * -; revert c; decide +kernel) ?_
  refine step_add m κ 1 rfl rfl (by clear * -; revert c; decide +kernel) rfl rfl rfl rfl rfl rfl pay ?_
  refine step_recv m κ 2 rfl rfl rfl (by decide) ?_
  refine step_send_r m κ 13 (by decide) rfl (by decide) (by decide) (by clear * -; revert c; decide +kernel) rfl rfl rfl (by clear * -; revert c; decide +kernel) ?_
  refine step_send_r m κ 14 (by decide) rfl (by decide) (by decide) (by clear * -; revert c; decide +kernel) rfl rfl rfl (by clear * -; revert c; decide +kernel) ?_
  refine step_add m κ 2 rfl rfl (by clear * -; revert c; decide +kernel) rfl rfl rfl rfl rfl rfl pay ?_
  refine step_recv m κ 3 rfl rfl rfl (by decide) ?_
  refine step_send_r m κ 15 (by decide) rfl (by decide) (by decide) (by clear * -; revert c; decide +kernel) rfl rfl rfl (by clear * -; revert c; decide +kernel) ?_
  refine step_send_r m κ 16 (by decide) rfl (by decide) (by decide) (by clear * -; revert c; decide +kernel) rfl rfl rfl (by clear * -; revert c; decide +kernel) ?_
  refine step_add m κ 3 rfl rfl (by clear * -; revert c; decide +kernel) rfl rfl rfl rfl rfl rfl pay ?_
  refine step_recv m κ 4 rfl rfl rfl (by decide) ?_
  refine step_send_r m κ 17 (by decide) rfl (by decide) (by decide) (by clear * -; revert c; decide +kernel) rfl rfl rfl (by clear * -; revert c; decide +kernel) ?_
  refine step_send_r m κ 18 (by decide) rfl (by decide) (by decide) (by clear * -; revert c; decide +kernel) rfl rfl rfl (by clear * -; revert c; decide +kernel) ?_
  refine step_add m κ 4 rfl rfl (by clear * -; revert c; decide +kernel) rfl rfl rfl rfl rfl rfl pay ?_
  refine step_recv m κ 5 rfl rfl rfl (by decide) ?_
  refine step_send_r m κ 19 (by decide) rfl (by decide) (by decide) (by clear * -; revert c; decide +kernel) rfl rfl rfl (by clear * -; revert c; decide +kernel) ?_
  refine step_send_r m κ 20 (by decide) rfl (by decide) (by decide) (by clear * -; revert c; decide +kernel) rfl rfl rfl (by clear * -; revert c; decide +kernel) ?_
  refine step_add m κ 5 rfl rfl (by clear * -; revert c; decide +kernel) rfl rfl rfl rfl rfl rfl pay ?_
  refine step_recv m κ 6 rfl rfl rfl (by decide) ?_
  refine step_send_r m κ 21 (by decide) rfl (by decide) (by decide) (by clear * -; revert c; decide +kernel) rfl rfl rfl (by clear * -; revert c; decide +kernel) ?_
  refine step_send_r m κ 22 (by decide) rfl (by decide) (by decide) (by clear * -; revert c; decide +kernel) rfl rfl rfl (by clear * -; revert c; decide +kernel) ?_
  refine step_add m κ 6 rfl rfl (by clear * -; revert c; decide +kernel) rfl rfl rfl rfl rfl rfl pay ?_
  refine step_recv m κ 10 rfl rfl rfl (by decide) ?_
  refine step_add m κ 10 rfl rfl (by clear * -; revert c; decide +kernel) rfl rfl rfl rfl rfl rfl pay ?_
  refine step_recv m κ 9 rfl rfl rfl (by decide) ?_
  refine step_add m κ 9 rfl rfl (by clear * -; revert c; decide +kernel) rfl rfl rfl rfl rfl rfl pay ?_
  refine step_recv m κ 12 rfl rfl rfl (by decide) ?_
  refine step_add m κ 12 rfl rfl (by clear * -; revert c; decide +kernel) rfl rfl rfl rfl rfl rfl pay ?_
  refine step_recv m κ 11 rfl rfl rfl (by decide) ?_
  refine step_add m κ 11 rfl rfl (by clear * -; revert c; decide +kernel) rfl rfl rfl rfl rfl rfl pay ?_
  refine step_recv m κ 14 rfl rfl rfl (by decide) ?_
  refine step_add m κ 14 rfl rfl (by clear * -; revert c; decide +kernel) rfl rfl rfl rfl rfl rfl pay ?_
  refine step_recv m κ 13 rfl rfl rfl (by decide) ?_
  refine step_add m κ 13 rfl rfl (by clear * -; revert c; decide +kernel) rfl rfl rfl rfl rfl rfl pay ?_
  refine step_recv m κ 16 rfl rfl rfl (by decide) ?_
  refine step_add m κ 16 rfl rfl (by clear * -; revert c; decide +kernel) rfl rfl rfl rfl rfl rfl pay ?_
  refine step_recv m κ 15 rfl rfl rfl (by decide) ?_
  refine step_add m κ 15 rfl rfl (by clear * -; revert c; decide +kernel) rfl rfl rfl rfl rfl rfl pay ?_
  refine step_recv m κ 18 rfl rfl rfl (by decide) ?_
  refine step_send_r m κ 23 (by decide) rfl (by decide) (by decide) (by clear * -; revert c; decide +kernel) rfl rfl rfl (by clear * -; revert c; decide +kernel) ?_
  refine step_add m κ 18 rfl rfl (by clear * -; revert c; decide +kernel) rfl rfl rfl rfl rfl rfl pay ?_
  refine step_recv m κ 17 rfl rfl rfl (by decide) ?_
  refine step_add m κ 17 rfl rfl (by clear * -; revert c; decide +kernel) rfl rfl rfl rfl rfl rfl pay ?_
  refine step_recv m κ 20 rfl rfl rfl (by decide) ?_
  refine step_send_r m κ 24 (by decide) rfl (by decide) (by decide) (by clear * -; revert c; decide +kernel) rfl rfl rfl (by clear * -; revert c; decide +kernel) ?_
  refine step_add m κ 20 rfl rfl (by clear * -; revert c; decide +kernel) rfl rfl rfl rfl rfl rfl pay ?_
  refine step_recv m κ 19 rfl rfl rfl (by decide) ?_
  refine step_send_r m κ 25 (by decide) rfl (by decide) (by decide) (by clear * -; revert c; decide +kernel) rfl rfl rfl (by clear * -; revert c; decide +kernel) ?_
  refine step_add m κ 19 rfl rfl (by clear * -; revert c; decide +kernel) rfl rfl rfl rfl rfl rfl pay ?_
  refine step_recv m κ 22 rfl rfl rfl (by decide) ?_
  refine step_add m κ 22 rfl rfl (by clear * -; revert c; decide +kernel) rfl rfl rfl rfl rfl rfl pay ?_
  refine step_recv m κ 21 rfl rfl rfl (by decide) ?_
  refine step_send_r m κ 26 (by decide) rfl (by decide) (by decide) (by clear * -; revert c; decide +kernel) rfl rfl rfl (by clear * -; revert c; decide +kernel) ?_
  refine step_add m κ 21 rfl rfl (by clear * -; revert c; decide +kernel) rfl rfl rfl rfl rfl rfl pay ?_
  refine step_recv m κ 7 rfl rfl rfl (by decide) ?_
  refine step_add m κ 7 rfl rfl (by clear * -; revert c; decide +kernel) rfl rfl rfl rfl rfl rfl pay ?_
  refine step_recv m κ 8 rfl rfl rfl (by decide) ?_
  refine step_add m κ 8 rfl rfl (by clear * -; revert c; decide +kernel) rfl rfl rfl rfl rfl rfl pay ?_
  refine step_recv m κ 23 rfl rfl rfl (by decide) ?_
  refine step_add m κ 23 rfl rfl (by clear * -; revert c; decide +kernel) rfl rfl rfl rfl rfl rfl pay ?_
  refine step_recv m κ 25 rfl rfl rfl (by decide) ?_
  refine step_add m κ 25 rfl rfl (by clear * -; revert c; decide +kernel) rfl rfl rfl rfl rfl rfl pay ?_
  refine step_recv m κ 24 rfl rfl rfl (by decide) ?_
  refine step_add m κ 24 rfl rfl (by clear * -; revert c; decide +kernel) rfl rfl rfl rfl rfl rfl pay ?_
  refine step_recv m κ 26 rfl rfl rfl (by decide) ?_
  refine step_add m κ 26 rfl rfl (by clear * -; revert c; decide +kernel) rfl rfl rfl rfl rfl rfl pay ?_
  refine step_sent m κ 0 rfl rfl (by decide) rfl ?_
  refine step_sent m κ 1 rfl rfl (by decide) rfl ?_
  refine step_sent m κ 2 rfl rfl (by decide) rfl ?_
  refine step_sent m κ 3 rfl rfl (by decide) rfl ?_
  refine step_sent m κ 4 rfl rfl (by decide) rfl ?_
  refine step_sent m κ 5 rfl rfl (by decide) rfl ?_
  refine step_sent m κ 6 rfl rfl (by decide) rfl ?_
  refine step_sent m κ 7 rfl rfl (by decide) rfl ?_
  refine step_sent m κ 8 rfl rfl (by decide) rfl ?_
  refine step_sent m κ 9 rfl rfl (by decide) rfl ?_
  refine step_sent m κ 11 rfl rfl (by decide) rfl ?_
  refine step_sent m κ 13 rfl rfl (by decide) rfl ?_
  refine step_sent m κ 15 rfl rfl (by decide) rfl ?_
  refine step_sent m κ 17 rfl rfl (by decide) rfl ?_
  refine step_sent m κ 19 rfl rfl (by decide) rfl ?_
  refine step_sent m κ 21 rfl rfl (by decide) rfl ?_
  refine step_sent m κ 10 rfl rfl (by decide) rfl ?_
  refine step_sent m κ 12 rfl rfl (by decide) rfl ?_
  refine step_sent m κ 14 rfl rfl (by decide) rfl ?_
  refine step_sent m κ 16 rfl rfl (by decide) rfl ?_
  refine step_sent m κ 18 rfl rfl (by decide) rfl ?_
  refine step_sent m κ 20 rfl rfl (by decide) rfl ?_
  refine step_sent m κ 22 rfl rfl (by decide) rfl ?_
  refine step_sent m κ 23 rfl rfl (by decide) rfl ?_
  refine step_sent m κ 24 rfl rfl (by decide) rfl ?_
  refine step_sent m κ 25 rfl rfl (by decide) rfl ?_
  refine step_sent m κ 26 rfl rfl (by decide) rfl ?_
  exact fupd_intro

end Cert.Proof
-- ==== Proof.Run.lean ====
/-
  The run of the all-reduce over any floating-point carrier: every device ends with its input unchanged and with its result at
  `Vout`, and every semaphore ends at zero.
-/
module

public import proofs.«01_k».proof.Proof.Setup
public import proofs.«01_k».proof.Proof.Body

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation launchCred ownSems0 scopedRest)

variable {F : FTy → Type} [FloatOps F]

local notation "𝕄" => MT nD τ sig Unit (Elt F) ℕ UU ℕ

variable (m : (ℓ : Loc nD τ sig) → Buf (Elt F) ℓ) (ρ : Dev nD → PrngReg)

/-- The device's state, what it owes apart. -/
def Idle (κ : GSem nD τ sig → ℕ) (c : Dev nD) (n t w : ℕ) : sProp 𝕄 :=
  iprop(recs m κ ∗ levAts L lv ∗ xHeld m c
    ∗ bigSep Finset.univ (sendSide n w c) ∗ bigSep Finset.univ (recvSide m t c) ∗ bigSep Finset.univ (outSide m t c) ∗ scr c)

theorem St_intro (κ : GSem nD τ sig → ℕ) (c : Dev nD) (n t w : ℕ) (W : Waits sig Unit) :
    iprop(Idle m κ c n t w ∗ owes (c : Thread nD τ) (owed n c) W) ⊢ St m κ c n t w := by
  unfold Idle St
  iintro ⟨⟨H1, H2, H3, H4⟩, HO⟩
  isplitl [H1]; · iexact H1
  isplitl [H2]; · iexact H2
  isplitl [HO]; · iexists W; iexact HO
  isplitl [H3] <;> iassumption

theorem St_elim (κ : GSem nD τ sig → ℕ) (c : Dev nD) (n t w : ℕ) :
    St m κ c n t w ⊢ iprop(Idle m κ c n t w ∗ ∃ W, owes (c : Thread nD τ) (owed n c) W) := by
  unfold Idle St
  iintro ⟨H1, H2, HO, H3, H4⟩
  isplitr [HO]
  · isplitl [H1]; · iexact H1
    isplitl [H2]; · iexact H2
    isplitl [H3] <;> iassumption
  · iexact HO

/-- The region's data: no windows; what a device holds before its body and after it. -/
def dats (p : Fin 1) (c : Dev nD) : Dat τ (Elt F) Unit ℕ UU ℕ (cfgs p) c where
  A w := w.elim0
  after w := w.elim0
  Φ t := match t with
    | ⟨0, _⟩ => iprop(∃ κ, Idle m κ c 0 0 0)
    | ⟨_ + 1, _⟩ => iprop(∃ κ, Idle m κ c 27 54 27)
  q _ := fullShare
  owed t := match t with
    | ⟨0, _⟩ => owed 0 c
    | ⟨_ + 1, _⟩ => 0

set_option maxRecDepth 20000 in
theorem body_obligation (c : Dev nD) : BodyObligation (dats (F := F) m 0 c) (defs₀ (F := F)) 𝒱₀ () Set.univ := fun t => by
  rw [show t = t0_0 from fin_N0 t]
  refine BI.Entails.trans (Q := iprop((∃ κ, Idle m κ c 0 0 0) ∗ ∃ W, owes (c : Thread nD τ) (owed 0 c) W)) ?_ ?_
  · show iprop((∃ κ, Idle m κ c 0 0 0) ∗ (dats m 0 c).owesAt () t0_0.castSucc ∗ _) ⊢ _
    unfold Dat.owesAt Pipeline.owesWithin
    iintro ⟨H, ⟨%W, -, HO⟩, -⟩
    isplitl [H]; · iexact H
    iexists W; iexact HO
  refine BI.Entails.trans (Q := run c (bodyAt0 (F := F) t0_0) (fun _ => iprop(∃ κ, St m κ c 27 54 27))) ?_ ?_
  · show iprop((∃ κ, Idle m κ c 0 0 0) ∗ ∃ W, owes (c : Thread nD τ) (owed 0 c) W) ⊢ run c (bodyAt0 (F := F) t0_0) (fun _ => iprop(∃ κ, St m κ c 27 54 27))
    iintro ⟨⟨%κ, H⟩, ⟨%W, HO⟩⟩
    ihave H := (St_intro m κ c 0 0 0 W) $$ [H HO]
    · isplitl [H] <;> iassumption
    iapply ((body m κ c).trans (wp_mono _ _ _ fun _ => (show St m κ c 27 54 27 ⊢ iprop(∃ κ, St m κ c 27 54 27) from by
      iintro H; iexists κ; iexact H)))
    iexact H
  · refine wp_mono _ _ _ fun _ => ?_
    show iprop(∃ κ, St m κ c 27 54 27) ⊢ iprop((∃ κ, Idle m κ c 27 54 27) ∗ (dats m 0 c).owesAt () t0_0.succ ∗ bigSep (Finset.univ : Finset (Fin 0)) _)
    unfold Dat.owesAt Pipeline.owesWithin
    rw [bigSep_none]
    iintro ⟨%κ, H⟩
    ihave H := (St_elim m κ c 27 54 27) $$ H
    icases H with ⟨H, %W, HO⟩
    isplitl [H]; · iexists κ; iexact H
    isplitl [HO]
    · iexists W
      isplitr; · ipureintro; exact fun _ _ => Or.inl trivial
      rw [← show owed 27 c = (dats m 0 c).owed t0_0.succ from owed_end le_rfl c]
      iexact HO
    iempintro

/-! ## Into the body -/

theorem start (c : Dev nD) : iprop((levAts L lv ∗ launchCred (owed 0) c ∗ G' m c) ∗ scopedRest cfg0.spec c) ⊢ (dats m 0 c).Φ 0 := by
  rw [scopedRest0_eq]
  show _ ⊢ iprop(∃ κ, Idle m κ c 0 0 0)
  unfold G' lin lsems
  iintro ⟨⟨Hlev, Hcr, ⟨%κ, Hrec, Hx, Hs, Har, Ho, Hl1, Hl2, Hl3⟩⟩, H1, H2, H3⟩
  ihave Hc := (creds c) $$ Hcr
  iexists κ
  unfold Idle
  isplitl [Hrec]; · iexact Hrec
  isplitl [Hlev]; · iexact Hlev
  isplitl [Hx]; · iexact Hx
  isplitl [Hs]
  · rw [show (sendSide 0 0 c : Fin 27 → sProp 𝕄) = toSend c from funext fun i => if_pos (Nat.zero_le _)]
    iexact Hs
  isplitl [Hc Har]
  · rw [show (recvSide m 0 c : Fin 27 → sProp 𝕄) = fun i => iprop(cred (tallyAt (rcell c i) () (N i)) ∗ atPos ER (rcell c i) 0 ∅ 0) from
      funext fun i => if_pos (Nat.zero_le _), bigSep_sep']
    isplitl [Hc] <;> iassumption
  isplitl [Ho]
  · rw [show (outSide m 0 c : Fin 27 → sProp 𝕄) = fun i => iprop(∃ f, oM.view.loc (c : Thread nD τ) ↦[R i c]{fullShare} f) from
      funext fun i => if_pos (Nat.zero_le _)]
    unfold outs
    iexact Ho
  unfold scr
  isplitl [H1]; · iexact H1
  isplitl [H2]; · iexact H2
  isplitl [H3]; · iexact H3
  isplitl [Hl1]; · iexact Hl1
  isplitl [Hl2] <;> iassumption

/-! ## Out of the body -/

/-- What a device keeps: a share of its input, and its result. -/
def Y (c : Dev nD) : sProp 𝕄 := iprop(xHeld m c ∗ oM.view.loc (c : Thread nD τ) ↦{fullShare} Vout m c)

theorem finish (c : Dev nD) : (dats m 0 c).Φ (Fin.last cfg0.N) ⊢ iprop(Y m c ∗ ownSems0 osem c ∗ scopedRest cfg0.spec c) := by
  rw [scopedRest0_eq, sems_eq]
  show iprop(∃ κ, Idle m κ c 27 54 27) ⊢ _
  unfold Idle Y scr lsems
  rw [show (sendSide 27 27 c : Fin 27 → sProp 𝕄) = fun i => semVal (scell c i) 0 from funext fun i => by
      have := wpos_le i; unfold sendSide; rw [if_neg (by omega), if_neg (by omega)],
    show (recvSide m 54 c : Fin 27 → sProp 𝕄) = fun i => iprop(semVal (rcell c i) 0 ∗ ∃ q, rM.view.loc (c : Thread nD τ) ↦[R i c]{q} V m c) from
      funext fun i => by have := posn_le i; unfold recvSide; rw [if_neg (by omega)],
    show (outSide m 54 c : Fin 27 → sProp 𝕄) = fun i => oM.view.loc (c : Thread nD τ) ↦[R i c]{fullShare} Vout m c from
      funext fun i => by have := posn_le i; unfold outSide; rw [if_neg (by omega)],
    ← out_split c (Vout m c), bigSep_sep']
  iintro ⟨%κ, -, -, Hx, Hs, ⟨Hr, -⟩, Ho, H1, H2, H3, Hl⟩
  isplitl [Hx Ho]
  · isplitl [Hx] <;> iassumption
  isplitl [Hs Hr Hl]
  · isplitl [Hs Hr]
    · isplitl [Hr] <;> iassumption
    iexact Hl
  isplitl [H1]; · iexact H1
  isplitl [H2] <;> iassumption

/-- A device's input unchanged and its result the sum. -/
def QY (c : Dev nD) (s : MemSt nD τ sig (Elt F)) : Prop :=
  s.mem ((c : Thread nD τ).loc main_v1_0) = Vout m c ∧ s.mem ((c : Thread nD τ).loc main_arg0) = m ((c : Thread nD τ).loc main_arg0)

theorem read (c : Dev nD) (s' : Phys nD τ sig (Elt F)) : iprop(Y m c ∗ SI s') ⊢ |={Set.univ}=> iprop(⌜QY m c s'.mem⌝ ∗ SI s') := by
  unfold Y xHeld
  iintro ⟨⟨⟨%q, Hx⟩, Ho⟩, HSI⟩
  icombine HSI Hx gives %hx
  icombine HSI Ho gives %ho
  imodintro
  isplitr
  · ipureintro
    exact ⟨Buf.eq_of_forall_mem_univ ho, Buf.eq_of_forall_mem_univ hx⟩
  iexact HSI

/-- The run. -/
theorem run_main : θ_run (defs (F := F)) (onTc (τ := τ) (main (F := F))) ⟨m, fun _ => 0, ρ⟩
    (fun r => (∀ c, QY m c r.2) ∧ r.2.sem = fun _ => 0) :=
  launch m ρ (dats m) (owed 0) (G' m) (Y m) (body_obligation m) (fun _ => rfl) (fun _ => rfl) (start m) (finish m)
    (G m) u₀ (hu₀ m) (glob m) (QY m) (read m)

end Cert.Proof
-- ==== Proof.Value.lean ====
/-
  What the two programs compute, over the extended reals. The whole array has 65536 rows, of which the devices with first
  mesh coordinate 0 hold the upper 32768 and the others the lower ones. The reference adds row `r` and row `32768 + r`; so
  does each device, its own row first and the row that came from across x second.
-/
module

public import proofs.«01_k».proof.Proof.Common
public import proofs.«01_k».proof.Proof.Gen.ReferenceIdeal.Run
public import Idealize.ShloMosaic.Lib.Layout
public import Idealize.ShloMosaic.Lib.Pointwise

@[expose] public section

noncomputable section

namespace Cert.Proof

open Cert.KernelIdeal
open Idealize.ShloMosaic Idealize.ShloMosaic.TcCoe

/-- The place of element `j` of half `k` in the whole array. -/
def place (k : Fin 2) (j : S32768x1024.Idx) : Cert.ReferenceIdeal.S65536x1024.Idx :=
  ix2 (n0 := 65536) (n1 := 1024) ⟨32768 * k.val + (j 0).val, by have := (j 0).isLt; have := k.isLt; simp at *; omega⟩
    ⟨(j 1).val, (j 1).isLt⟩

/-- The half that a device holds: its first mesh coordinate. -/
def half (c : Dev nD) : Fin 2 := ⟨c.val / 4, by have : c.val < 8 := c.isLt; omega⟩

/-- Folding the whole array in two takes element `j` of half `k` to `(k, j)`. -/
theorem fold_apply {α : Type} (a : Cert.ReferenceIdeal.S65536x1024.Idx → α)
    (h : Cert.ReferenceIdeal.S65536x1024.ShapeCasts Cert.ReferenceIdeal.S2x32768x1024) (k : Fin 2) (j : S32768x1024.Idx) :
    shapeCast Cert.ReferenceIdeal.S2x32768x1024 a h
      (ix3 (n0 := 2) (n1 := 32768) (n2 := 1024) k ⟨(j 0).val, (j 0).isLt⟩ ⟨(j 1).val, (j 1).isLt⟩) = a (place k j) := by
  refine shapeCast_apply a h _ (place k j) ?_
  rw [rowMajor_val2 _ 1024 rfl, rowMajor_val3 _ 33554432 1024 rfl rfl]
  show (32768 * k.val + (j 0).val) * 1024 + (j 1).val = k.val * 33554432 + (j 0).val * 1024 + (j 1).val
  omega

/-- The reference's result at `j`: the two halves there, added. -/
theorem reference_apply (a : Cert.ReferenceIdeal.S65536x1024.Idx → EReal) (j : S32768x1024.Idx) :
    (Host.reduceAdd (F := Ideal) (φ := .f32) (shapeCast _ a Cert.ReferenceIdeal.Gen.shapeCasts_S65536x1024_S2x32768x1024)
      (constant Cert.ReferenceIdeal.S_ .f32 0x00000000#32) Cert.ReferenceIdeal.Gen.reducesTo_S2x32768x1024_S32768x1024_d0
      Cert.ReferenceIdeal.Gen.h_S_ : Cert.ReferenceIdeal.S32768x1024.Idx → EReal) j = a (place 0 j) + a (place 1 j) := by
  rw [Host.reduceAdd_apply, Ideal.hostReduceAdd_def, Ideal.hostReduceAdd_r3_a0, Fin.sum_univ_two]
  refine (congrArg₂ (· + ·) ?_ (congrArg₂ (· + ·) (fold_apply a _ 0 j) (fold_apply a _ 1 j))).trans (zero_add _)
  simp [pointwise]

/-- A device's input is its half of the whole array. -/
theorem block_apply (c : Dev nD) (a : Cert.ReferenceIdeal.S65536x1024.Idx → EReal) (hb) (ht) (j : S32768x1024.Idx) :
    Layout.blockN ⟨2, ![32768, 1024]⟩ ⟨2, ![65536, 1024]⟩ (Layout.meshBlock [2, 2, 2] ![[0], []] c hb) a ht j = a (place (half c) j) := by
  rw [Layout.blockN_apply]
  refine congrArg a (funext fun b => Fin.ext ?_)
  rw [Layout.TilesN.idx_val]
  have hc : c.val < 8 := c.isLt
  fin_cases b
  · show (c.val / 4 % 2 * 1 + 0) * 32768 + (j 0).val = 32768 * (c.val / 4) + (j 0).val
    omega
  · show 0 * 1024 + (j 1).val = (j 1).val
    omega

/-- Two devices on different sides of x hold the two halves, in one order or the other: their sum is the same. -/
theorem halves_add {c d : Dev nD} (h : d.val / 4 = 1 - c.val / 4) (f : Fin 2 → EReal) : f (half c) + f (half d) = f 0 + f 1 := by
  have hc : c.val < 8 := c.isLt
  rcases Nat.lt_or_ge c.val 4 with hlt | hge
  · rw [show half c = 0 from Fin.ext (by show c.val / 4 = 0; omega), show half d = 1 from Fin.ext (by show d.val / 4 = 1; omega)]
  · rw [show half c = 1 from Fin.ext (by show c.val / 4 = 1; omega), show half d = 0 from Fin.ext (by show d.val / 4 = 0; omega), add_comm]

/-- Every device's result, where the devices hold their halves of `a`: the two halves of `a`, added. -/
theorem Vout_apply (m : (ℓ : Loc nD τ sig) → Buf (Elt Ideal) ℓ) (a : Cert.ReferenceIdeal.S65536x1024.Idx → EReal)
    (hX : ∀ (c : Dev nD) (j : S32768x1024.Idx), X m c j = a (place (half c) j)) (c : Dev nD) (j : S32768x1024.Idx) :
    Vout m c j = a (place 0 j) + a (place 1 j) := by
  unfold Vout V
  rw [hX, hX]
  exact halves_add (origin_x _ c) fun k => a (place k j)

end Cert.Proof

end
-- ==== Proof.lean ====
/-
  The claims. The kernel's run (Proof/Run.lean) holds over any floating-point carrier; both frames are that run with the
  values dropped, since the two kernels have the same text. The value claim is its instance over the extended reals, with the
  equation of Proof/Value.lean.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

/-- The kernel over the machine's floats ends with its input unchanged and every semaphore at zero. -/
theorem frame_kernel : Cert.quiescent_Kernel (hKernel := Cert.Kernel.Gen.facts) := fun m ρ _ =>
  (θ_run Cert.KernelIdeal.defs _ _).mono (fun _ h => ⟨fun c => (h.1 c).2, h.2⟩) (run_main (F := Bits) m ρ)

/-- So does the kernel over the extended reals. -/
theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩) (run_main (F := Ideal) m ρ)

/-- The reference ends with its input unchanged; it has no semaphores. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where the devices hold their halves of the reference's array, every device's result is the reference's. -/
theorem algebraic : Cert.algebraic_KernelIdeal_ReferenceIdeal (hKernelIdeal := Cert.KernelIdeal.Gen.facts)
    (hReferenceIdeal := Cert.ReferenceIdeal.Gen.facts) := by
  intro m ρ m' ρ' _ hm
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c).1.trans (funext fun j => ?_), (h.1 c).2⟩)
    (run_main (F := Ideal) m ρ)
  refine (Vout_apply m _ (fun d i => ?_) c j).trans (reference_apply _ j).symm
  exact (congrFun (hm d) i).trans (block_apply d _ _ _ i)

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
